-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e_over_8" .f32 0x3E38AA3B#32 (((1 / 8) * (Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "below_one" .f32 0x3F7FFFFF#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x32x64 : Shape := ⟨4, ![3, 512, 32, 64]⟩
abbrev S3x512x32 : Shape := ⟨3, ![3, 512, 32]⟩
abbrev S3x32x512x64 : Shape := ⟨4, ![3, 32, 512, 64]⟩
abbrev S3x32x512 : Shape := ⟨3, ![3, 32, 512]⟩
abbrev S3x32x64x512 : Shape := ⟨4, ![3, 32, 64, 512]⟩
abbrev S32x16 : Shape := ⟨2, ![32, 16]⟩
abbrev S3x32x512x16 : Shape := ⟨4, ![3, 32, 512, 16]⟩
abbrev S1x1x512x64 : Shape := ⟨4, ![1, 1, 512, 64]⟩
abbrev S1x32x512 : Shape := ⟨3, ![1, 32, 512]⟩
abbrev S1x1x64x512 : Shape := ⟨4, ![1, 1, 64, 512]⟩
abbrev S1x1x512x16 : Shape := ⟨4, ![1, 1, 512, 16]⟩
abbrev S512x512 : Shape := ⟨2, ![512, 512]⟩
abbrev S18x512x512 : Shape := ⟨3, ![18, 512, 512]⟩
abbrev S1x1x512 : Shape := ⟨3, ![1, 1, 512]⟩
abbrev S1x512 : Shape := ⟨2, ![1, 512]⟩
abbrev S128x512 : Shape := ⟨2, ![128, 512]⟩
abbrev S512x128 : Shape := ⟨2, ![512, 128]⟩
abbrev S512x64 : Shape := ⟨2, ![512, 64]⟩
abbrev S512 : Shape := ⟨1, ![512]⟩
abbrev S32x512 : Shape := ⟨2, ![32, 512]⟩
abbrev S64x512 : Shape := ⟨2, ![64, 512]⟩
abbrev S1x512x512 : Shape := ⟨3, ![1, 512, 512]⟩
abbrev S16x512 : Shape := ⟨2, ![16, 512]⟩
abbrev S512x16 : Shape := ⟨2, ![512, 16]⟩
abbrev S16 : Shape := ⟨1, ![16]⟩
abbrev S1x16 : Shape := ⟨2, ![1, 16]⟩

abbrev nBuf : Space → Nat
  | .hbm => 15
  | .vmem => 19
  | .smem => 0
  | _ => 0

abbrev bufTy : (tb : Table) → Fin (tcTables nBuf tb) → BufTy
  | .hbm, ⟨0, _⟩ => ⟨S3x512x32x64, .fp8e4m3⟩
  | .hbm, ⟨1, _⟩ => ⟨S3x512x32, .f32⟩
  | .hbm, ⟨2, _⟩ => ⟨S3x512x32x64, .fp8e4m3⟩
  | .hbm, ⟨3, _⟩ => ⟨S3x512x32, .f32⟩
  | .hbm, ⟨4, _⟩ => ⟨S3x512x32x64, .bf16⟩
  | .hbm, ⟨5, _⟩ => ⟨S3x512x32x64, .bf16⟩
  | .hbm, ⟨6, _⟩ => ⟨S3x32x512x64, .fp8e4m3⟩
  | .hbm, ⟨7, _⟩ => ⟨S3x32x512x64, .fp8e4m3⟩
  | .hbm, ⟨8, _⟩ => ⟨S3x32x512, .f32⟩
  | .hbm, ⟨9, _⟩ => ⟨S3x32x512, .f32⟩
  | .hbm, ⟨10, _⟩ => ⟨S3x32x64x512, .bf16⟩
  | .hbm, ⟨11, _⟩ => ⟨S3x32x64x512, .bf16⟩
  | .hbm, ⟨12, _⟩ => ⟨S32x16, .f32⟩
  | .hbm, ⟨13, _⟩ => ⟨S3x32x512x16, .f32⟩
  | .hbm, ⟨14, _⟩ => ⟨S3x32x512, .f32⟩
  | .local _ .vmem, ⟨0, _⟩ => ⟨S1x1x512x64, .fp8e4m3⟩
  | .local _ .vmem, ⟨1, _⟩ => ⟨S1x1x512x64, .fp8e4m3⟩
  | .local _ .vmem, ⟨2, _⟩ => ⟨S1x1x512x64, .fp8e4m3⟩
  | .local _ .vmem, ⟨3, _⟩ => ⟨S1x1x512x64, .fp8e4m3⟩
  | .local _ .vmem, ⟨4, _⟩ => ⟨S1x32x512, .f32⟩
  | .local _ .vmem, ⟨5, _⟩ => ⟨S1x32x512, .f32⟩
  | .local _ .vmem, ⟨6, _⟩ => ⟨S1x32x512, .f32⟩
  | .local _ .vmem, ⟨7, _⟩ => ⟨S1x32x512, .f32⟩
  | .local _ .vmem, ⟨8, _⟩ => ⟨S1x1x64x512, .bf16⟩
  | .local _ .vmem, ⟨9, _⟩ => ⟨S1x1x64x512, .bf16⟩
  | .local _ .vmem, ⟨10, _⟩ => ⟨S1x1x64x512, .bf16⟩
  | .local _ .vmem, ⟨11, _⟩ => ⟨S1x1x64x512, .bf16⟩
  | .local _ .vmem, ⟨12, _⟩ => ⟨S32x16, .f32⟩
  | .local _ .vmem, ⟨13, _⟩ => ⟨S1x1x512x16, .f32⟩
  | .local _ .vmem, ⟨14, _⟩ => ⟨S1x1x512x16, .f32⟩
  | .local _ .vmem, ⟨15, _⟩ => ⟨S1x32x512, .f32⟩
  | .local _ .vmem, ⟨16, _⟩ => ⟨S1x32x512, .f32⟩
  | .local _ .vmem, ⟨17, _⟩ => ⟨S512x512, .f32⟩
  | .local _ .vmem, ⟨18, _⟩ => ⟨S18x512x512, .bf16⟩
  | _, _ => ⟨S3x512x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![3, 32], ![false, false]⟩

def k0_off1 (i : grid0.Coords) : Fin 3 → Nat :=
  let c0 : Index := 0#32
  let arg1 : BitVec 32 := BitVec.ofNat 32 (i 1).val
  let v0 : Index := Scalar.indexCast arg1
  let c0_0 : Index := 0#32
  ![0, v0.toNat, 0]
def k0_cond1 (i : grid0.Coords) : BitVec 1 :=
  let arg0 : BitVec 32 := BitVec.ofNat 32 (i 0).val
  let c0_i32 : BitVec 32 := 0#32
  let v3201 : BitVec 1 := Scalar.cmpi .eq arg0 c0_i32
  let v3202 : BitVec 32 := Scalar.extui v3201
  let c0_i32_1808 : BitVec 32 := 0#32
  let v3203 : BitVec 1 := Scalar.cmpi .ne v3202 c0_i32_1808
  v3203

def k0_off2 (i : grid0.Coords) : Fin 2 → Nat :=
  let arg1 : BitVec 32 := BitVec.ofNat 32 (i 1).val
  let v3207 : Index := Scalar.indexCast arg1
  let c0_1811 : Index := 0#32
  ![v3207.toNat, 0]
def k0_cond2 (i : grid0.Coords) : BitVec 1 :=
  let arg0 : BitVec 32 := BitVec.ofNat 32 (i 0).val
  let c0_i32_1809 : BitVec 32 := 0#32
  let v3204 : BitVec 1 := Scalar.cmpi .sgt arg0 c0_i32_1809
  let v3205 : BitVec 32 := Scalar.extui v3204
  let c0_i32_1810 : BitVec 32 := 0#32
  let v3206 : BitVec 1 := Scalar.cmpi .ne v3205 c0_i32_1810
  v3206

def k0_off3 (i : grid0.Coords) : Fin 2 → Nat :=
  let arg1 : BitVec 32 := BitVec.ofNat 32 (i 1).val
  let v3207 : Index := Scalar.indexCast arg1
  let c0_1811 : Index := 0#32
  ![v3207.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x64 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x64 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "below_one" => some ⊤
  | "ln2" => some ((Real.log 2 : ℝ) : EReal)
  | "log2e_over_8" => some (((1 / 8) * (Real.log 2)⁻¹ : ℝ) : EReal)
  | _ => none
-- ==== ReferenceIdeal.lean ====
abbrev S3x512x32x64 : Shape := ⟨4, ![3, 512, 32, 64]⟩
abbrev S3x512x32 : Shape := ⟨3, ![3, 512, 32]⟩
abbrev S32x16 : Shape := ⟨2, ![32, 16]⟩
abbrev S3x32x512x16 : Shape := ⟨4, ![3, 32, 512, 16]⟩
abbrev S3x32x512 : Shape := ⟨3, ![3, 32, 512]⟩
abbrev S3x32x512x64 : Shape := ⟨4, ![3, 32, 512, 64]⟩
abbrev S96x512x64 : Shape := ⟨3, ![96, 512, 64]⟩
abbrev S96x512 : Shape := ⟨2, ![96, 512]⟩
abbrev S96x512x512 : Shape := ⟨3, ![96, 512, 512]⟩
abbrev S96x512x1 : Shape := ⟨3, ![96, 512, 1]⟩
abbrev S96x1x512 : Shape := ⟨3, ![96, 1, 512]⟩
abbrev S96x512x16 : Shape := ⟨3, ![96, 512, 16]⟩

abbrev nBuf : Space → Nat
  | .hbm => 9
  | .vmem => 9
  | .smem => 0
  | _ => 0

abbrev bufTy : (tb : Table) → Fin (tcTables nBuf tb) → BufTy
  | .hbm, ⟨0, _⟩ => ⟨S3x512x32x64, .fp8e4m3⟩
  | .hbm, ⟨1, _⟩ => ⟨S3x512x32, .f32⟩
  | .hbm, ⟨2, _⟩ => ⟨S3x512x32x64, .fp8e4m3⟩
  | .hbm, ⟨3, _⟩ => ⟨S3x512x32, .f32⟩
  | .hbm, ⟨4, _⟩ => ⟨S3x512x32x64, .bf16⟩
  | .hbm, ⟨5, _⟩ => ⟨S3x512x32x64, .bf16⟩
  | .hbm, ⟨6, _⟩ => ⟨S32x16, .f32⟩
  | .hbm, ⟨7, _⟩ => ⟨S3x32x512x16, .f32⟩
  | .hbm, ⟨8, _⟩ => ⟨S3x32x512, .f32⟩
  | .local _ .vmem, ⟨0, _⟩ => ⟨S3x512x32x64, .fp8e4m3⟩
  | .local _ .vmem, ⟨1, _⟩ => ⟨S3x512x32, .f32⟩
  | .local _ .vmem, ⟨2, _⟩ => ⟨S3x512x32x64, .fp8e4m3⟩
  | .local _ .vmem, ⟨3, _⟩ => ⟨S3x512x32, .f32⟩
  | .local _ .vmem, ⟨4, _⟩ => ⟨S3x512x32x64, .bf16⟩
  | .local _ .vmem, ⟨5, _⟩ => ⟨S3x512x32x64, .bf16⟩
  | .local _ .vmem, ⟨6, _⟩ => ⟨S32x16, .f32⟩
  | .local _ .vmem, ⟨7, _⟩ => ⟨S3x32x512x16, .f32⟩
  | .local _ .vmem, ⟨8, _⟩ => ⟨S3x32x512, .f32⟩
  | _, _ => ⟨S3x512x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S3x512x32x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512x32x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x512x32x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x512x32x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x32x512x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.WordRuns.lean ====
/- What the two whole-body runs of the word-level kernel share: @main up to its region, the arrays there, each window's block at a
   point, and the two conditions in closed form. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 32 — by arithmetic of the point. -/
theorem hcond0_0 : ∀ t : Fin cfg0.N, cond0_0 (grid0.coords t) ↔ t.val < 32 :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val < 32)

/-- The condition of the body's `scf.if` 1 (`k0_h2`), from the grid coordinates (the skeleton's scalar
    chain substituted). -/
abbrev cond0_1 (i : grid0.Coords) : Prop := k0_cond2 i = 1#1
/-- It holds at the points from point 32 on — decided over the grid. -/
theorem hcond0_1 : ∀ t : Fin cfg0.N, cond0_1 (grid0.coords t) ↔ 32 ≤ t.val :=
  (by decide +kernel : ∀ t : Fin grid0.N, cond0_1 (grid0.coords t) ↔ 32 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1x512x64 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x64 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x512 .f32 := Memref.whole cc0_scratch0
abbrev scM0_1 : Memref sig .tc .vmem S18x512x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.WordRunA.lean ====
/- The word-level kernel's body on the first batch: a run that stores fresh head sums and names nothing of the outputs. -/
module

public import proofs.«01_k».proof.Proof.WordRuns

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4600000 in
/-- The body's triple IN CASE A (`scf.if` 0 taken, `scf.if` 1 not taken: points 0, 1, … 31: 32 of 96): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x1x512x64 .fp8e4m3) (harg2 : arg2.IsWhole) (arg3 : Memref sig .tc .vmem S1x1x512x64 .fp8e4m3) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x1x64x512 .bf16) (harg6 : arg6.IsWhole) (arg7 : Memref sig .tc .vmem S1x1x64x512 .bf16) (harg7 : arg7.IsWhole) (arg8 : Memref sig .tc .vmem S32x16 .f32) (harg8 : arg8.IsWhole) (arg9 : Memref sig .tc .vmem S1x1x512x16 .f32) (harg9 : arg9.IsWhole) (arg10 : Memref sig .tc .vmem S1x32x512 .f32) (harg10 : arg10.IsWhole) (arg11 : Memref sig .tc .vmem S512x512 .f32) (harg11 : arg11.IsWhole) (arg12 : Memref sig .tc .vmem S18x512x512 .bf16) (harg12 : arg12.IsWhole) (hc0 : cond0_0 i) (hc1 : ¬cond0_1 i)
    (x0 : Vec F S1x1x512x64 .fp8e4m3) (x1 : Vec F S1x1x512x64 .fp8e4m3) (x2 : Vec F S1x32x512 .f32) (x3 : Vec F S1x32x512 .f32) (x4 : Vec F S1x1x64x512 .bf16) (x5 : Vec F S1x1x64x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_twin_uniform_search i arg2 harg2 arg3 harg3 arg4 harg4 arg5 harg5 arg6 harg6 arg7 harg7 arg8 harg8 arg9 harg9 arg10 harg10 arg11 harg11 arg12 harg12) K := by
    intro E K
    simp only [cc0_twin_uniform_search_eq_skeleton]; unfold cc0_twin_uniform_search_skel
    simp only [k0_part90_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

end Cert.Kernel.Hand

end
-- ==== Proof.WordRunB.lean ====
/- The word-level kernel's body on the later batches: a run that adds to the head sums and names nothing of the outputs. -/
module

public import proofs.«01_k».proof.Proof.WordRunA

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4608000 in
/-- The body's triple IN CASE B (`scf.if` 0 not taken, `scf.if` 1 taken: points 32, 33, … 95: 64 of 96): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x1x512x64 .fp8e4m3) (harg2 : arg2.IsWhole) (arg3 : Memref sig .tc .vmem S1x1x512x64 .fp8e4m3) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x1x64x512 .bf16) (harg6 : arg6.IsWhole) (arg7 : Memref sig .tc .vmem S1x1x64x512 .bf16) (harg7 : arg7.IsWhole) (arg8 : Memref sig .tc .vmem S32x16 .f32) (harg8 : arg8.IsWhole) (arg9 : Memref sig .tc .vmem S1x1x512x16 .f32) (harg9 : arg9.IsWhole) (arg10 : Memref sig .tc .vmem S1x32x512 .f32) (harg10 : arg10.IsWhole) (arg11 : Memref sig .tc .vmem S512x512 .f32) (harg11 : arg11.IsWhole) (arg12 : Memref sig .tc .vmem S18x512x512 .bf16) (harg12 : arg12.IsWhole) (hc0 : ¬cond0_0 i) (hc1 : cond0_1 i)
    (x0 : Vec F S1x1x512x64 .fp8e4m3) (x1 : Vec F S1x1x512x64 .fp8e4m3) (x2 : Vec F S1x32x512 .f32) (x3 : Vec F S1x32x512 .f32) (x4 : Vec F S1x1x64x512 .bf16) (x5 : Vec F S1x1x64x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_twin_uniform_search i arg2 harg2 arg3 harg3 arg4 harg4 arg5 harg5 arg6 harg6 arg7 harg7 arg8 harg8 arg9 harg9 arg10 harg10 arg11 harg11 arg12 harg12) K := by
    intro E K
    simp only [cc0_twin_uniform_search_eq_skeleton]; unfold cc0_twin_uniform_search_skel
    simp only [k0_part90_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

end Cert.Kernel.Hand

end
-- ==== Proof.WordFrame.lean ====
/- The frame of the word-level kernel: it runs, its arguments end unchanged and its semaphores end at zero. Nothing reads the
   outputs here, so nothing of their contents is named. -/
module

public import proofs.«01_k».proof.Proof.WordRunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 96 := lt_of_lt_of_eq t.isLt (show cfg0.N = 96 from N_0)
  by_cases h0 : t.val < 32
  · by_cases h1 : 32 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · by_cases h1 : 32 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.Run.lean ====
/- The kernel body run once, on whole buffers: what its stores leave in each of the three results. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 9000000 in
/-- What the body leaves in the buffers of its three results, found by running it: the first and the third are
    updated in one row, so that they depend on what the buffer held; the second is stored whole. -/
def kernelRun (c : Dev nD) (i : grid0.Coords) (arg2 : Memref sig .tc .vmem S1x1x512x64 .fp8e4m3) (harg2 : arg2.IsWhole) (arg3 : Memref sig .tc .vmem S1x1x512x64 .fp8e4m3) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x1x64x512 .bf16) (harg6 : arg6.IsWhole) (arg7 : Memref sig .tc .vmem S1x1x64x512 .bf16) (harg7 : arg7.IsWhole) (arg8 : Memref sig .tc .vmem S32x16 .f32) (harg8 : arg8.IsWhole) (arg9 : Memref sig .tc .vmem S1x1x512x16 .f32) (harg9 : arg9.IsWhole) (arg10 : Memref sig .tc .vmem S1x32x512 .f32) (harg10 : arg10.IsWhole) (arg11 : Memref sig .tc .vmem S512x512 .f32) (harg11 : arg11.IsWhole) (arg12 : Memref sig .tc .vmem S18x512x512 .bf16) (harg12 : arg12.IsWhole)
    (x0 : Vec F S1x1x512x64 .fp8e4m3) (x1 : Vec F S1x1x512x64 .fp8e4m3) (x2 : Vec F S1x32x512 .f32) (x3 : Vec F S1x32x512 .f32) (x4 : Vec F S1x1x64x512 .bf16) (x5 : Vec F S1x1x64x512 .bf16) (y6 : Vec F S32x16 .f32) (y8 : Vec F S1x32x512 .f32) :
    Σ' (G6 : Buf (Elt F) (arg8.view.loc (c : Thread nD τ))) (G8 : Buf (Elt F) (arg10.view.loc (c : Thread nD τ))),
      { L7 : List (View.Piece (Elt F) S1x1x512x16 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ (∃ d, owns (c : Thread nD τ) arg9 fullShare d) ∗ owns (c : Thread nD τ) arg10 fullShare y8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} G6) ∗ (∃ f, arg9.view.loc (c : Thread nD τ) ↦[arg9.view.set]{fullShare} arg9.view.writes (Elt F) f L7) ∗ (arg10.view.loc (c : Thread nD τ) ↦[arg10.view.set]{fullShare} G8) ∗ (∃ d, owns (c : Thread nD τ) arg11 fullShare d) ∗ (∃ d, owns (c : Thread nD τ) arg12 fullShare d)) -∗ K ⟨⟩))
          ⊢ wp frame (wpE (defs₀ (F := F)) Variants.none c none) E (cc0_twin_uniform_search i arg2 harg2 arg3 harg3 arg4 harg4 arg5 harg5 arg6 harg6 arg7 harg7 arg8 harg8 arg9 harg9 arg10 harg10 arg11 harg11 arg12 harg12) K } := by
    refine ⟨?_, ?_, ?_, ?_⟩
    rotate_right
    intro E K
    simp only [cc0_twin_uniform_search_eq_skeleton]; unfold cc0_twin_uniform_search_skel
    simp only [k0_part90_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexact H6
    isplitl [H7]
    · iexists _; iexact H7
    isplitl [H8]
    · iexact H8
    isplitl [HS0]
    · iexists _, _; isplitr; swap; · iexact HS0
      ipureintro; rfl
    iexists _, _; isplitr; swap; · iexact HS1
    ipureintro; rfl

end Cert.KernelIdeal.Hand

end
-- ==== Proof.Chunk.lean ====
/- What the kernel's body stores of one chunk of 32 rows of probabilities, and the whole scratch as the stores of its
   sixteen chunks. -/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- A splat of one f32 word. -/
def pw (w : BitVec 32) : FVec F S32x512 .f32 := broadcast S32x512 (Scalar.ofBits .f32 w : F .f32)

def zero16 : FVec F S32x512 .bf16 := broadcast S32x512 (Scalar.ofBits .bf16 0x0000#16 : F .bf16)

/-- One more threshold of a step: `b` below `a`. -/
def stp (x : FVec F S32x512 .f32) (a b : BitVec 32) (p : FVec F S32x512 .f32) : FVec F S32x512 .f32 :=
  select (cmpf .olt x (pw a)) (pw b) p

def sel (x : FVec F S32x512 .f32) (a : BitVec 32) (p q : FVec F S32x512 .bf16) : FVec F S32x512 .bf16 :=
  select (cmpf .olt x (pw a)) p q

/-- Rounding to a step, capped at level seven. -/
def rnd (x step : FVec F S32x512 .f32) : FVec F S32x512 .bf16 :=
  truncf .bf16 (mulf (roundeven (minimumf (divf x step) (pw 0x40E00000#32))) step) bitsLt_bf16_f32

def rnd0 (x : FVec F S32x512 .f32) : FVec F S32x512 .bf16 := rnd x (stp x 0x37800000#32 0x36000000#32 (stp x 0x39800000#32 0x38000000#32 (stp x 0x3B800000#32 0x3A000000#32 (stp x 0x3D800000#32 0x3C000000#32 (pw 0x3E000000#32)))))
def rnd1 (x : FVec F S32x512 .f32) : FVec F S32x512 .bf16 := rnd x (stp x 0x39000000#32 0x37800000#32 (stp x 0x3B000000#32 0x39800000#32 (stp x 0x3D000000#32 0x3B800000#32 (pw 0x3D800000#32))))
def rnd2 (x : FVec F S32x512 .f32) : FVec F S32x512 .bf16 := rnd x (stp x 0x38800000#32 0x37000000#32 (stp x 0x3A800000#32 0x39000000#32 (stp x 0x3C800000#32 0x3B000000#32 (pw 0x3D000000#32))))
def rnd3 (x : FVec F S32x512 .f32) : FVec F S32x512 .bf16 := rnd x (stp x 0x38000000#32 0x36800000#32 (stp x 0x3A000000#32 0x38800000#32 (stp x 0x3C000000#32 0x3A800000#32 (pw 0x3C800000#32))))

def st (y : FVec F S32x512 .bf16) : FVec F S1x32x512 .bf16 := shapeCast S1x32x512 y shapeCasts_S32x512_S1x32x512

theorem inb_slot {s o : ℕ} (hs : s < 18) (ho : o + 32 ≤ 512) : ∀ a, (![s, o, 0] : Fin S18x512x512.rank → ℕ) a + S1x32x512.size a ≤ S18x512x512.size a := by
  intro a; fin_cases a
  · exact hs
  · exact ho
  · exact le_rfl

theorem inb_rows {o : ℕ} (ho : o + 32 ≤ 512) : ∀ a, (![o, 0] : Fin S512x512.rank → ℕ) a + S32x512.size a ≤ S512x512.size a := by
  intro a; fin_cases a
  · exact ho
  · exact le_rfl

/-- The eighteen stores of a chunk, last first, at rows `o` to `o + 31` of each slot. -/
def pieces (x : FVec F S32x512 .f32) (o : ℕ) (ho : o + 32 ≤ 512) : List (View.Piece (Elt F) S18x512x512 .bf16) :=
  [⟨Rect.unit ![16, o, 0] S1x32x512.size (inb_slot (by decide) ho), st (sel x 0x38000000#32 (rnd3 x) zero16)⟩,
   ⟨Rect.unit ![12, o, 0] S1x32x512.size (inb_slot (by decide) ho), st (sel x 0x3A000000#32 (rnd3 x) zero16)⟩,
   ⟨Rect.unit ![8, o, 0] S1x32x512.size (inb_slot (by decide) ho), st (sel x 0x3C000000#32 (rnd3 x) zero16)⟩,
   ⟨Rect.unit ![5, o, 0] S1x32x512.size (inb_slot (by decide) ho), st (sel x 0x3E000000#32 (rnd3 x) (rnd0 x))⟩,
   ⟨Rect.unit ![15, o, 0] S1x32x512.size (inb_slot (by decide) ho), st (sel x 0x38800000#32 (rnd2 x) zero16)⟩,
   ⟨Rect.unit ![11, o, 0] S1x32x512.size (inb_slot (by decide) ho), st (sel x 0x3A800000#32 (rnd2 x) zero16)⟩,
   ⟨Rect.unit ![7, o, 0] S1x32x512.size (inb_slot (by decide) ho), st (sel x 0x3C800000#32 (rnd2 x) zero16)⟩,
   ⟨Rect.unit ![4, o, 0] S1x32x512.size (inb_slot (by decide) ho), st (sel x 0x3E800000#32 (rnd2 x) (rnd0 x))⟩,
   ⟨Rect.unit ![14, o, 0] S1x32x512.size (inb_slot (by decide) ho), st (sel x 0x39000000#32 (rnd1 x) zero16)⟩,
   ⟨Rect.unit ![10, o, 0] S1x32x512.size (inb_slot (by decide) ho), st (sel x 0x3B000000#32 (rnd1 x) zero16)⟩,
   ⟨Rect.unit ![6, o, 0] S1x32x512.size (inb_slot (by decide) ho), st (sel x 0x3D000000#32 (rnd1 x) zero16)⟩,
   ⟨Rect.unit ![3, o, 0] S1x32x512.size (inb_slot (by decide) ho), st (sel x 0x3F000000#32 (rnd1 x) (rnd0 x))⟩,
   ⟨Rect.unit ![17, o, 0] S1x32x512.size (inb_slot (by decide) ho), st (sel x 0x37800000#32 (rnd0 x) zero16)⟩,
   ⟨Rect.unit ![13, o, 0] S1x32x512.size (inb_slot (by decide) ho), st (sel x 0x39800000#32 (rnd0 x) zero16)⟩,
   ⟨Rect.unit ![9, o, 0] S1x32x512.size (inb_slot (by decide) ho), st (sel x 0x3B800000#32 (rnd0 x) zero16)⟩,
   ⟨Rect.unit ![2, o, 0] S1x32x512.size (inb_slot (by decide) ho), st (sel x 0x3D800000#32 zero16 (rnd0 x))⟩,
   ⟨Rect.unit ![1, o, 0] S1x32x512.size (inb_slot (by decide) ho), st (rnd0 x)⟩,
   ⟨Rect.unit ![0, o, 0] S1x32x512.size (inb_slot (by decide) ho), st (truncf .bf16 x bitsLt_bf16_f32)⟩]

end Cert.KernelIdeal.Hand
-- ==== Proof.Slots.lean ====
/- The scratch of probabilities after all its stores: eighteen stores of each of sixteen chunks. -/
module

public import proofs.«01_k».proof.Proof.Chunk

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

section
variable (c : Dev nD) (i : grid0.Coords)
  (arg2 : Memref sig .tc .vmem S1x1x512x64 .fp8e4m3) (harg2 : arg2.IsWhole)
  (arg3 : Memref sig .tc .vmem S1x1x512x64 .fp8e4m3) (harg3 : arg3.IsWhole)
  (arg4 : Memref sig .tc .vmem S1x32x512 .f32) (harg4 : arg4.IsWhole)
  (arg5 : Memref sig .tc .vmem S1x32x512 .f32) (harg5 : arg5.IsWhole)
  (arg11 : Memref sig .tc .vmem S512x512 .f32) (arg12 : Memref sig .tc .vmem S18x512x512 .bf16)
  (x0 : Vec F S1x1x512x64 .fp8e4m3) (x1 : Vec F S1x1x512x64 .fp8e4m3) (x2 : Vec F S1x32x512 .f32) (x3 : Vec F S1x32x512 .f32)

/-- The chunk of probabilities at rows `o` to `o + 31`. -/
def chunkAt (o : ℕ) (ho : o + 32 ≤ 512) : FVec F S32x512 .f32 :=
  k0_pay10 (kernelRun.sl.r c i arg2 harg2 arg3 harg3 arg4 harg4 arg5 harg5 arg11 x0 x1 x2 x3)
    (kernelRun.sl.r_1 c i arg2 harg2 arg3 harg3 arg4 harg4 arg5 harg5 arg11 x0 x1 x2 x3)
    (arg11.view.readCov (kernelRun.sl.HS0_2 c i arg2 harg2 arg3 harg3 arg4 harg4 arg5 harg5 arg11 x0 x1 x2 x3)
      (Rect.unit (s := S512x512) ![o, 0] S32x512.size (inb_rows ho)).toLoadRect)

def piecesAt (o : ℕ) (ho : o + 32 ≤ 512) : List (View.Piece (Elt F) S18x512x512 .bf16) :=
  pieces (chunkAt c i arg2 harg2 arg3 harg3 arg4 harg4 arg5 harg5 arg11 x0 x1 x2 x3 o ho) o ho

set_option maxHeartbeats 4000000 in
theorem scratch_eq : kernelRun.sl.HS1_288 c i arg2 harg2 arg3 harg3 arg4 harg4 arg5 harg5 arg11 x0 x1 x2 x3
    = piecesAt c i arg2 harg2 arg3 harg3 arg4 harg4 arg5 harg5 arg11 x0 x1 x2 x3 480 (by decide) ++ (piecesAt c i arg2 harg2 arg3 harg3 arg4 harg4 arg5 harg5 arg11 x0 x1 x2 x3 448 (by decide) ++ (piecesAt c i arg2 harg2 arg3 harg3 arg4 harg4 arg5 harg5 arg11 x0 x1 x2 x3 416 (by decide) ++ (piecesAt c i arg2 harg2 arg3 harg3 arg4 harg4 arg5 harg5 arg11 x0 x1 x2 x3 384 (by decide) ++ (piecesAt c i arg2 harg2 arg3 harg3 arg4 harg4 arg5 harg5 arg11 x0 x1 x2 x3 352 (by decide) ++ (piecesAt c i arg2 harg2 arg3 harg3 arg4 harg4 arg5 harg5 arg11 x0 x1 x2 x3 320 (by decide) ++ (piecesAt c i arg2 harg2 arg3 harg3 arg4 harg4 arg5 harg5 arg11 x0 x1 x2 x3 288 (by decide) ++ (piecesAt c i arg2 harg2 arg3 harg3 arg4 harg4 arg5 harg5 arg11 x0 x1 x2 x3 256 (by decide) ++ (piecesAt c i arg2 harg2 arg3 harg3 arg4 harg4 arg5 harg5 arg11 x0 x1 x2 x3 224 (by decide) ++ (piecesAt c i arg2 harg2 arg3 harg3 arg4 harg4 arg5 harg5 arg11 x0 x1 x2 x3 192 (by decide) ++ (piecesAt c i arg2 harg2 arg3 harg3 arg4 harg4 arg5 harg5 arg11 x0 x1 x2 x3 160 (by decide) ++ (piecesAt c i arg2 harg2 arg3 harg3 arg4 harg4 arg5 harg5 arg11 x0 x1 x2 x3 128 (by decide) ++ (piecesAt c i arg2 harg2 arg3 harg3 arg4 harg4 arg5 harg5 arg11 x0 x1 x2 x3 96 (by decide) ++ (piecesAt c i arg2 harg2 arg3 harg3 arg4 harg4 arg5 harg5 arg11 x0 x1 x2 x3 64 (by decide) ++ (piecesAt c i arg2 harg2 arg3 harg3 arg4 harg4 arg5 harg5 arg11 x0 x1 x2 x3 32 (by decide) ++ (piecesAt c i arg2 harg2 arg3 harg3 arg4 harg4 arg5 harg5 arg11 x0 x1 x2 x3 0 (by decide)))))))))))))))) := rfl
end

end Cert.KernelIdeal.Hand
-- ==== Proof.Rows.lean ====
/- The sixteen losses of a block of rows as one function of the scratch's slots. -/
module

public import proofs.«01_k».proof.Proof.Slots

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

def outv (vt : FVec F S64x512 .bf16) (a : Vec F S1x512x512 .bf16) : FVec F S64x512 .f32 :=
  matmul dot_S64x512_S512x512_S64x512_1_0_0_1_n_n none vt (shapeCast S512x512 a shapeCasts_S1x512x512_S512x512) (constant S64x512 .f32 0x00000000#32)

def lossv (g2 e : FVec F S64x512 .f32) : FVec F S1x512 .f32 :=
  shapeCast S1x512 (multiReduction .add [0] S512 (mulf (mulf e e) g2) 0x00000000#32 reduces_S64x512_S512 (.inl rfl) rfl) shapeCasts_S512_S1x512

/-- The loss of a first candidate of a class: its own slot, the probabilities and the next candidate's slot. -/
def lossA (vt : FVec F S64x512 .bf16) (g2 : FVec F S64x512 .f32) (S : Fin 18 → Vec F S1x512x512 .bf16) (a b : Fin 18) : FVec F S1x512 .f32 :=
  lossv g2 (subf (subf (outv vt (S a)) (outv vt (S 0))) (outv vt (S b)))

def lossB (vt : FVec F S64x512 .bf16) (g2 : FVec F S64x512 .f32) (S : Fin 18 → Vec F S1x512x512 .bf16) (a b : Fin 18) : FVec F S1x512 .f32 :=
  lossv g2 (subf (addf (subf (outv vt (S 2)) (outv vt (S 0))) (outv vt (S a))) (outv vt (S b)))

def lossC (vt : FVec F S64x512 .bf16) (g2 : FVec F S64x512 .f32) (S : Fin 18 → Vec F S1x512x512 .bf16) (a : Fin 18) : FVec F S1x512 .f32 :=
  lossv g2 (addf (subf (outv vt (S 2)) (outv vt (S 0))) (outv vt (S a)))

def rowsT (vt : FVec F S64x512 .bf16) (g2 : FVec F S64x512 .f32) (S : Fin 18 → Vec F S1x512x512 .bf16) : FVec F S512x16 .f32 :=
  transpose S512x16 [1, 0] (concatenate S16x512 0 [⟨S1x512, lossA vt g2 S 3 6⟩, ⟨S1x512, lossA vt g2 S 4 7⟩, ⟨S1x512, lossA vt g2 S 5 8⟩,
    ⟨S1x512, lossA vt g2 S 1 9⟩, ⟨S1x512, lossB vt g2 S 6 10⟩, ⟨S1x512, lossB vt g2 S 7 11⟩, ⟨S1x512, lossB vt g2 S 8 12⟩,
    ⟨S1x512, lossB vt g2 S 9 13⟩, ⟨S1x512, lossB vt g2 S 10 14⟩, ⟨S1x512, lossB vt g2 S 11 15⟩, ⟨S1x512, lossB vt g2 S 12 16⟩,
    ⟨S1x512, lossB vt g2 S 13 17⟩, ⟨S1x512, lossC vt g2 S 14⟩, ⟨S1x512, lossC vt g2 S 15⟩, ⟨S1x512, lossC vt g2 S 16⟩, ⟨S1x512, lossC vt g2 S 17⟩]
    concatenates_S1x512_S1x512_S1x512_S1x512_S1x512_S1x512_S1x512_S1x512_S1x512_S1x512_S1x512_S1x512_S1x512_S1x512_S1x512_S1x512_S16x512_d0)
    transposes_S16x512_p1_0_S512x16

theorem inb_load (s : Fin 18) : ∀ a, (![s.val, 0, 0] : Fin S18x512x512.rank → ℕ) a + S1x512x512.size a ≤ S18x512x512.size a := by
  intro a; fin_cases a
  · exact s.isLt
  · exact le_rfl
  · exact le_rfl

section
variable (c : Dev nD) (i : grid0.Coords)
  (arg2 : Memref sig .tc .vmem S1x1x512x64 .fp8e4m3) (harg2 : arg2.IsWhole)
  (arg3 : Memref sig .tc .vmem S1x1x512x64 .fp8e4m3) (harg3 : arg3.IsWhole)
  (arg4 : Memref sig .tc .vmem S1x32x512 .f32) (harg4 : arg4.IsWhole)
  (arg5 : Memref sig .tc .vmem S1x32x512 .f32) (harg5 : arg5.IsWhole)
  (arg6 : Memref sig .tc .vmem S1x1x64x512 .bf16) (harg6 : arg6.IsWhole)
  (arg7 : Memref sig .tc .vmem S1x1x64x512 .bf16) (harg7 : arg7.IsWhole)
  (arg11 : Memref sig .tc .vmem S512x512 .f32) (arg12 : Memref sig .tc .vmem S18x512x512 .bf16)
  (x0 : Vec F S1x1x512x64 .fp8e4m3) (x1 : Vec F S1x1x512x64 .fp8e4m3) (x2 : Vec F S1x32x512 .f32) (x3 : Vec F S1x32x512 .f32)
  (x4 : Vec F S1x1x64x512 .bf16) (x5 : Vec F S1x1x64x512 .bf16)

/-- Slot `s` of the scratch as the kernel loads it. -/
def slotv (s : Fin 18) : Vec F S1x512x512 .bf16 :=
  arg12.view.readCov (kernelRun.sl.HS1_288 c i arg2 harg2 arg3 harg3 arg4 harg4 arg5 harg5 arg11 x0 x1 x2 x3)
    (Rect.unit (s := S18x512x512) ![s.val, 0, 0] S1x512x512.size (inb_load s)).toLoadRect

/-- The block of losses of the run. -/
def rowsv : FVec F S512x16 .f32 :=
  rowsT (kernelRun.sl.r_48 c arg6 harg6 x4) (kernelRun.sl.r_49 c arg7 harg7 x5)
    (slotv c i arg2 harg2 arg3 harg3 arg4 harg4 arg5 harg5 arg11 arg12 x0 x1 x2 x3)

theorem H7_eq : kernelRun.sl.H7_1 c i arg2 harg2 arg3 harg3 arg4 harg4 arg5 harg5 arg6 harg6 arg7 harg7 arg11 arg12 x0 x1 x2 x3 x4 x5
    = [⟨Rect.unit ![0, 0, 0, 0] S1x1x512x16.size inb_S1x1x512x16_S1x1x512x16_0_0_0_0,
        shapeCast S1x1x512x16 (rowsv c i arg2 harg2 arg3 harg3 arg4 harg4 arg5 harg5 arg6 harg6 arg7 harg7 arg11 arg12 x0 x1 x2 x3 x4 x5)
          shapeCasts_S512x16_S1x1x512x16⟩] := rfl

theorem r66_eq : kernelRun.sl.r_66 c i arg2 harg2 arg3 harg3 arg4 harg4 arg5 harg5 arg6 harg6 arg7 harg7 arg11 arg12 x0 x1 x2 x3 x4 x5
    = shapeCast S1x16 (multiReduction .add [0] S16 (rowsv c i arg2 harg2 arg3 harg3 arg4 harg4 arg5 harg5 arg6 harg6 arg7 harg7 arg11 arg12 x0 x1 x2 x3 x4 x5)
        0x00000000#32 reduces_S512x16_S16 (.inl rfl) rfl) shapeCasts_S16_S1x16 := rfl
end

end Cert.KernelIdeal.Hand
-- ==== Proof.Math.lean ====
/- The mathematics of the two programs on extended reals: the softmax taken in base 2 and in base e, the twin
   uniform quantiser written with candidates that telescope, and the squared error through linear sums. -/
module

public import Idealize.ShloMosaic.PureOps.Ideal.Laws

@[expose] public section

noncomputable section

namespace Cert.Math

open Idealize.ShloMosaic

/-! ## Products with a positive real -/

theorem sub_mul_pos (x y : EReal) {a : ℝ} (ha : 0 < a) : x * a - y * a = (x - y) * a := by
  induction x with
  | bot => simp [EReal.bot_mul_coe_of_pos ha]
  | top =>
    induction y with
    | bot => simp [EReal.bot_mul_coe_of_pos ha, EReal.top_mul_coe_of_pos ha]
    | top => simp [EReal.bot_mul_coe_of_pos ha, EReal.top_mul_coe_of_pos ha]
    | coe y =>
      rw [EReal.top_mul_coe_of_pos ha, EReal.top_sub_coe, EReal.top_mul_coe_of_pos ha, ← EReal.coe_mul, EReal.top_sub_coe]
  | coe x =>
    induction y with
    | bot => rw [EReal.bot_mul_coe_of_pos ha, EReal.sub_bot (EReal.coe_ne_bot x), EReal.top_mul_coe_of_pos ha, ← EReal.coe_mul, EReal.sub_bot (EReal.coe_ne_bot _)]
    | top => simp [EReal.bot_mul_coe_of_pos ha, EReal.top_mul_coe_of_pos ha, EReal.sub_top]
    | coe y => norm_cast; ring

/-- The natural exponential is the binary one of the argument divided by `log 2`. -/
theorem exp2_mul (x : EReal) : Ideal.exp2 (x * (((Real.log 2)⁻¹ : ℝ) : EReal)) = Ideal.exp x := by
  have hl : 0 < (Real.log 2)⁻¹ := inv_pos.mpr (Real.log_pos (by norm_num))
  induction x with
  | bot => rw [EReal.bot_mul_coe_of_pos hl]; rfl
  | top => rw [EReal.top_mul_coe_of_pos hl]; rfl
  | coe x =>
    rw [← EReal.coe_mul, Ideal.exp2_coe, Ideal.exp_coe]
    congr 1
    show (2 : ℝ) ^ (x * (Real.log 2)⁻¹) = Real.exp x
    rw [Real.rpow_def_of_pos (by norm_num : (0 : ℝ) < 2)]
    congr 1
    have := (Real.log_pos (by norm_num : (1 : ℝ) < 2)).ne'
    field_simp

theorem mul_inv_mul (x : EReal) : x * (((Real.log 2)⁻¹ : ℝ) : EReal) * ((Real.log 2 : ℝ) : EReal) = x := by
  have hl : (Real.log 2)⁻¹ * Real.log 2 = 1 := inv_mul_cancel₀ (Real.log_pos (by norm_num)).ne'
  rw [mul_assoc, ← EReal.coe_mul, hl, EReal.coe_one, mul_one]

/-! ## The maximum of a row -/

/-- The maximum of a row, from `-∞`. -/
def rowMax {n : ℕ} (f : Fin n → EReal) : EReal := Finset.univ.fold max ⊥ f

theorem rowMax_eq_sup {n : ℕ} (f : Fin n → EReal) : rowMax f = Finset.univ.sup f := rfl

theorem le_rowMax {n : ℕ} (f : Fin n → EReal) (j : Fin n) : f j ≤ rowMax f := by
  rw [rowMax_eq_sup]; exact Finset.le_sup (Finset.mem_univ j)

theorem exists_rowMax {n : ℕ} (hn : 0 < n) (f : Fin n → EReal) : ∃ j, rowMax f = f j := by
  rw [rowMax_eq_sup]
  obtain ⟨j, -, h⟩ := Finset.exists_mem_eq_sup Finset.univ ⟨⟨0, hn⟩, Finset.mem_univ _⟩ f
  exact ⟨j, h⟩

theorem rowMax_mul {n : ℕ} (f : Fin n → EReal) {a : ℝ} (ha : 0 < a) : rowMax (fun j => f j * a) = rowMax f * a := by
  rw [rowMax_eq_sup, rowMax_eq_sup]
  have hm : Monotone fun x : EReal => x * (a : EReal) := fun x y h =>
    mul_le_mul_of_nonneg_right h (by exact_mod_cast ha.le)
  rw [Finset.comp_sup_eq_sup_comp_of_is_total (fun x : EReal => x * (a : EReal)) hm (EReal.bot_mul_coe_of_pos ha)]
  rfl

/-! ## The softmax -/

/-- The reference's log-sum-exp of a row of scores. -/
def total {n : ℕ} (s : Fin n → EReal) : EReal := ∑ j, Ideal.exp (s j - rowMax s)
def lse {n : ℕ} (s : Fin n → EReal) : EReal := rowMax s + Ideal.log (total s)
/-- The reference's attention probability. -/
def prob {n : ℕ} (s : Fin n → EReal) (j : Fin n) : EReal := Ideal.exp (s j - rowMax s - Ideal.log (total s))

theorem exp2_sub {n : ℕ} (s : Fin n → EReal) (j : Fin n) :
    Ideal.exp2 (s j * (((Real.log 2)⁻¹ : ℝ) : EReal) - rowMax (fun j => s j * (((Real.log 2)⁻¹ : ℝ) : EReal))) = Ideal.exp (s j - rowMax s) := by
  have hl : 0 < (Real.log 2)⁻¹ := inv_pos.mpr (Real.log_pos (by norm_num))
  rw [rowMax_mul s hl, sub_mul_pos _ _ hl, exp2_mul]

theorem rowMax_back {n : ℕ} (s : Fin n → EReal) :
    rowMax (fun j => s j * (((Real.log 2)⁻¹ : ℝ) : EReal)) * ((Real.log 2 : ℝ) : EReal) = rowMax s := by
  have hl : 0 < (Real.log 2)⁻¹ := inv_pos.mpr (Real.log_pos (by norm_num))
  rw [rowMax_mul s hl, mul_inv_mul]

theorem ereal_sum_coe {ι : Type*} (t : Finset ι) (f : ι → ℝ) : (∑ j ∈ t, (f j : EReal)) = ((∑ j ∈ t, f j : ℝ) : EReal) := by
  classical
  induction t using Finset.induction_on with
  | empty => simp
  | insert a t h ih => rw [Finset.sum_insert h, Finset.sum_insert h, ih, EReal.coe_add]

/-- An exponential of something below its row's maximum is a real in `[0, 1]`, where that maximum is real. -/
theorem exp_sub_real {s : EReal} {r : ℝ} (h : s ≤ r) : ∃ x : ℝ, 0 ≤ x ∧ x ≤ 1 ∧ Ideal.exp (s - r) = x := by
  induction s with
  | bot => exact ⟨0, le_rfl, zero_le_one, by simp⟩
  | top => exact absurd (top_le_iff.mp h) (EReal.coe_ne_top r)
  | coe s =>
    have h' : s ≤ r := by exact_mod_cast h
    exact ⟨Real.exp (s - r), (Real.exp_pos _).le, Real.exp_le_one_iff.mpr (by linarith), by rw [← EReal.coe_sub, Ideal.exp_coe]⟩

/-- Where a row's maximum is real, its sum of exponentials is a real at least one. -/
theorem total_real {n : ℕ} (hn : 0 < n) (s : Fin n → EReal) {r : ℝ} (hr : rowMax s = r) : ∃ T : ℝ, 1 ≤ T ∧ total s = T := by
  choose x hx0 hx1 hx using fun j => exp_sub_real (s := s j) (r := r) (hr ▸ le_rowMax s j)
  refine ⟨∑ j, x j, ?_, ?_⟩
  · obtain ⟨j, hj⟩ := exists_rowMax hn s
    have : x j = 1 := by
      have h := hx j
      rw [← hj, hr, ← EReal.coe_sub, sub_self, Ideal.exp_coe, Real.exp_zero] at h
      exact_mod_cast h.symm
    rw [← this]
    exact Finset.single_le_sum (f := x) (fun i _ => hx0 i) (Finset.mem_univ j)
  · unfold total
    rw [← ereal_sum_coe]
    exact Finset.sum_congr rfl fun j _ => by rw [hr, hx j]

theorem ereal_cases (x : EReal) : x = ⊥ ∨ x = ⊤ ∨ ∃ r : ℝ, x = r := by
  induction x with
  | bot => exact .inl rfl
  | top => exact .inr (.inl rfl)
  | coe r => exact .inr (.inr ⟨r, rfl⟩)

theorem log_pos_coe {T : ℝ} (hT : 1 ≤ T) : Ideal.log (T : EReal) = (Real.log T : EReal) := by
  rw [Ideal.log_coe, if_neg (by linarith)]

/-- An attention probability is a real in `[0, 1]`. -/
theorem prob_real {n : ℕ} (hn : 0 < n) (s : Fin n → EReal) (j : Fin n) : ∃ x : ℝ, 0 ≤ x ∧ x ≤ 1 ∧ prob s j = x := by
  unfold prob
  rcases ereal_cases (rowMax s) with h | h | ⟨r, h⟩
  · have hj : s j = ⊥ := le_bot_iff.mp (h ▸ le_rowMax s j)
    exact ⟨0, le_rfl, zero_le_one, by rw [hj, EReal.bot_sub, EReal.bot_sub]; rfl⟩
  · exact ⟨0, le_rfl, zero_le_one, by rw [h, EReal.sub_top, EReal.bot_sub]; rfl⟩
  · obtain ⟨T, hT, hTs⟩ := total_real hn s h
    rw [h, hTs, log_pos_coe hT]
    have hs : s j ≤ r := h ▸ le_rowMax s j
    have hlog := Real.log_nonneg hT
    rcases ereal_cases (s j) with hj | hj | ⟨y, hj⟩
    · exact ⟨0, le_rfl, zero_le_one, by rw [hj, EReal.bot_sub, EReal.bot_sub]; rfl⟩
    · rw [hj] at hs; exact absurd (top_le_iff.mp hs) (EReal.coe_ne_top r)
    · rw [hj] at hs ⊢
      have hs' : y ≤ r := by exact_mod_cast hs
      exact ⟨Real.exp (y - r - Real.log T), (Real.exp_pos _).le, Real.exp_le_one_iff.mpr (by linarith), by
        rw [← EReal.coe_sub, ← EReal.coe_sub, Ideal.exp_coe]⟩

/-- The kernel's probability — the exponential times the exponential of the maximum minus the log-sum-exp, capped by
    nothing — is the reference's. -/
theorem prob_eq {n : ℕ} (hn : 0 < n) (s : Fin n → EReal) (j : Fin n) :
    Ideal.exp (s j - rowMax s) * min (Ideal.exp (rowMax s - lse s)) ⊤ = prob s j := by
  rw [min_eq_left le_top]
  unfold prob lse
  rcases ereal_cases (rowMax s) with h | h | ⟨r, h⟩
  · have hj : s j = ⊥ := le_bot_iff.mp (h ▸ le_rowMax s j)
    rw [hj, EReal.bot_sub, EReal.bot_sub]
    exact zero_mul _
  · rw [h, EReal.sub_top, EReal.bot_sub]
    exact zero_mul _
  · obtain ⟨T, hT, hTs⟩ := total_real hn s h
    rw [h, hTs, log_pos_coe hT]
    have hs : s j ≤ r := h ▸ le_rowMax s j
    rcases ereal_cases (s j) with hj | hj | ⟨y, hj⟩
    · rw [hj, EReal.bot_sub, EReal.bot_sub]
      exact zero_mul _
    · rw [hj] at hs; exact absurd (top_le_iff.mp hs) (EReal.coe_ne_top r)
    · rw [hj, ← EReal.coe_add, ← EReal.coe_sub, ← EReal.coe_sub, ← EReal.coe_sub, Ideal.exp_coe, Ideal.exp_coe, Ideal.exp_coe,
        ← EReal.coe_mul, ← Real.exp_add]
      congr 2; ring

end Cert.Math

end
-- ==== Proof.Quant.lean ====
/- The twin uniform quantiser on reals, in the two forms the programs compute it — level by level from its definition,
   and as a combination of candidates that telescope — and their agreement; then the squared error of the two. -/
module

public import proofs.«01_k».proof.Proof.Math

@[expose] public section

noncomputable section

namespace Cert.Math

open Idealize.ShloMosaic

/-! ## Rounding half to even -/

theorem round_eq_zero {y : ℝ} (h0 : 0 ≤ y) (h1 : y < 1 / 2) : Ideal.roundHalfEven y = 0 := by
  have hf : ⌊y⌋ = 0 := Int.floor_eq_zero_iff.mpr ⟨h0, by linarith⟩
  unfold Ideal.roundHalfEven
  simp only [hf, Int.cast_zero, sub_zero, if_pos h1]

theorem round_nonneg {y : ℝ} (h0 : 0 ≤ y) : 0 ≤ Ideal.roundHalfEven y := by
  have hf : 0 ≤ ⌊y⌋ := Int.floor_nonneg.mpr h0
  unfold Ideal.roundHalfEven
  dsimp only
  split_ifs <;> omega

theorem round_le {y : ℝ} {n : ℤ} (h : y ≤ n) : Ideal.roundHalfEven y ≤ n := by
  unfold Ideal.roundHalfEven
  dsimp only
  have h1 : (⌊y⌋ : ℝ) ≤ y := Int.floor_le y
  have hn : ⌊y⌋ ≤ n := by exact_mod_cast h1.trans h
  rcases hn.lt_or_eq with h2 | h2
  · split_ifs <;> omega
  · have : y = ⌊y⌋ := le_antisymm (by rw [h2]; exact h) h1
    rw [if_pos (by linarith)]; exact hn

theorem le_round {y : ℝ} {n : ℤ} (h : (n : ℝ) ≤ y) : n ≤ Ideal.roundHalfEven y := by
  have hf : n ≤ ⌊y⌋ := Int.le_floor.mpr h
  unfold Ideal.roundHalfEven
  dsimp only
  split_ifs <;> omega

theorem round_seven : Ideal.roundHalfEven 7 = 7 :=
  le_antisymm (round_le (by norm_num)) (le_round (by norm_num))

/-- Capping at seven before rounding or after it is the same. -/
theorem round_min {y : ℝ} (h0 : 0 ≤ y) : Ideal.roundHalfEven (min y 7) = min (max 0 (Ideal.roundHalfEven y)) 7 := by
  rw [max_eq_right (round_nonneg h0)]
  rcases le_total y 7 with h | h
  · rw [min_eq_left h, min_eq_left (round_le (by exact_mod_cast h))]
  · rw [min_eq_right h, round_seven, min_eq_right (le_round (by exact_mod_cast h))]

/-! ## The quantiser by levels -/

/-- The threshold `2⁻ᵐ`. -/
def th (m : ℕ) : ℝ := (1 / 2) ^ m

theorem th_pos (m : ℕ) : 0 < th m := by unfold th; positivity

theorem th_le {a b : ℕ} (h : a ≤ b) : th b ≤ th a := pow_le_pow_of_le_one (by norm_num) (by norm_num) h

theorem th_mul (m : ℕ) : th m * 2 ^ m = 1 := by unfold th; rw [← mul_pow]; norm_num

/-- The nearest level on a grid of step `2⁻ᵉ`, capped at level seven. -/
def lv (e : ℕ) (r : ℝ) : ℝ := (Ideal.roundHalfEven (min (r * 2 ^ e) 7) : ℝ) * th e

theorem lv_zero {e : ℕ} {r : ℝ} (h0 : 0 ≤ r) (h : r < th (e + 1)) : lv e r = 0 := by
  have h1 : r * 2 ^ e < 1 / 2 := by
    have hp : (0 : ℝ) < 2 ^ e := by positivity
    calc r * 2 ^ e < th (e + 1) * 2 ^ e := mul_lt_mul_of_pos_right h hp
      _ = 1 / 2 := by unfold th; rw [pow_succ, mul_right_comm, ← mul_pow]; norm_num
  have h2 : 0 ≤ r * 2 ^ e := by positivity
  unfold lv
  rw [min_eq_left (by linarith), round_eq_zero h2 h1]; simp

theorem lv_zero_zero (e : ℕ) : lv e 0 = 0 := lv_zero le_rfl (th_pos _)

/-- Candidate `m` of the quantiser: below `2⁻ᵐ` the fine grid, of step `2⁻⁽³⁺ᵐ⁾`; from there on the coarse grid, of
    step `1/8`. -/
def qref (m : ℕ) (r : ℝ) : ℝ := if r < th m then lv (3 + m) r else lv 3 r

/-- The rounding of a class of candidates four apart: each keeps its own grid on its own interval. -/
def RR : ℕ → ℝ → ℝ
  | 0, r => if r < th 16 then lv 19 r else if r < th 12 then lv 15 r else if r < th 8 then lv 11 r else if r < th 4 then lv 7 r else lv 3 r
  | 1, r => if r < th 13 then lv 16 r else if r < th 9 then lv 12 r else if r < th 5 then lv 8 r else lv 4 r
  | 2, r => if r < th 14 then lv 17 r else if r < th 10 then lv 13 r else if r < th 6 then lv 9 r else lv 5 r
  | _, r => if r < th 15 then lv 18 r else if r < th 11 then lv 14 r else if r < th 7 then lv 10 r else lv 6 r

/-- What the kernel stores for candidate `m`. -/
def A (m : ℕ) (r : ℝ) : ℝ := if r < th m then RR (m % 4) r else if m < 4 then RR 0 r else 0

/-- The coarse part of the candidates from five on. -/
def Lg (r : ℝ) : ℝ := if r < th 4 then 0 else RR 0 r

theorem RR_mid {m : ℕ} (h1 : 1 ≤ m) (h2 : m ≤ 12) {r : ℝ} (hl : ¬ r < th (m + 4)) (hu : r < th m) : RR (m % 4) r = lv (3 + m) r := by
  have t : ∀ k, th (k + 1) ≤ th k := fun k => th_le (by omega)
  have t4 := t 4; have t5 := t 5; have t6 := t 6; have t7 := t 7; have t8 := t 8; have t9 := t 9
  have t10 := t 10; have t11 := t 11; have t12 := t 12; have t13 := t 13; have t14 := t 14; have t15 := t 15
  have t1 := t 1; have t2 := t 2; have t3 := t 3
  interval_cases m <;> simp only [RR, Nat.reduceMod, Nat.reduceAdd, not_lt] at * <;> split_ifs <;> first | rfl | linarith

theorem RR_last {m : ℕ} (h1 : 13 ≤ m) (h2 : m ≤ 16) {r : ℝ} (hu : r < th m) : RR (m % 4) r = lv (3 + m) r := by
  interval_cases m <;> simp only [RR, Nat.reduceMod] <;> rw [if_pos hu]

theorem RR_zero_big {r : ℝ} (h : ¬ r < th 4) : RR 0 r = lv 3 r := by
  have big : ∀ k, 4 ≤ k → ¬ r < th k := fun k hk h' => h (h'.trans_le (th_le hk))
  simp only [RR]
  rw [if_neg (big _ (by norm_num)), if_neg (big _ (by norm_num)), if_neg (big _ (by norm_num)), if_neg h]

theorem A_next {m : ℕ} (hm : 4 ≤ m) {r : ℝ} (h : ¬ r < th m) : A m r = 0 := by
  unfold A; rw [if_neg h, if_neg (by omega)]

theorem A_sub {m : ℕ} (h1 : 1 ≤ m) (h2 : m ≤ 12) {r : ℝ} (h0 : 0 ≤ r) (hu : r < th m) : RR (m % 4) r - A (m + 4) r = lv (3 + m) r := by
  by_cases hl : r < th (m + 4)
  · unfold A
    rw [if_pos hl, Nat.add_mod_right, sub_self, lv_zero h0 (by convert hl using 2; omega)]
  · rw [A_next (by omega) hl, sub_zero, RR_mid h1 h2 hl hu]

theorem qref_small {m : ℕ} (h1 : 1 ≤ m) (h2 : m ≤ 3) {r : ℝ} (h0 : 0 ≤ r) : qref m r = A m r - A (m + 4) r := by
  unfold qref
  by_cases hu : r < th m
  · rw [if_pos hu, show A m r = RR (m % 4) r from if_pos hu, A_sub h1 (by omega) h0 hu]
  · have h4 : ¬ r < th 4 := fun h => hu (h.trans_le (th_le (by omega)))
    rw [if_neg hu, A_next (m := m + 4) (by omega) (fun h => hu (h.trans_le (th_le (by omega)))), sub_zero]
    unfold A; rw [if_neg hu, if_pos (by omega), RR_zero_big h4]

theorem qref_four {r : ℝ} (h0 : 0 ≤ r) : qref 4 r = RR 0 r - A 8 r := by
  unfold qref
  by_cases hu : r < th 4
  · rw [if_pos hu, ← A_sub (m := 4) (by norm_num) (by norm_num) h0 hu]
  · rw [if_neg hu, A_next (by omega) (fun h => hu (h.trans_le (th_le (by omega)))), sub_zero, RR_zero_big hu]

theorem Lg_small {r : ℝ} (h : r < th 4) : Lg r = 0 := if_pos h

theorem Lg_large {m : ℕ} (h1 : 5 ≤ m) {r : ℝ} (h0 : 0 ≤ r) (hu : ¬ r < th m) : Lg r = lv 3 r := by
  unfold Lg
  split_ifs with h
  · rw [lv_zero h0 h]
  · exact RR_zero_big h

theorem qref_mid {m : ℕ} (h1 : 5 ≤ m) (h2 : m ≤ 12) {r : ℝ} (h0 : 0 ≤ r) : qref m r = Lg r + A m r - A (m + 4) r := by
  unfold qref
  by_cases hu : r < th m
  · rw [if_pos hu, Lg_small (hu.trans_le (th_le (by omega))), zero_add, show A m r = RR (m % 4) r from if_pos hu, A_sub (by omega) h2 h0 hu]
  · rw [if_neg hu, A_next (by omega) hu, A_next (m := m + 4) (by omega) (fun h => hu (h.trans_le (th_le (by omega)))), Lg_large h1 h0 hu]; ring

theorem qref_last {m : ℕ} (h1 : 13 ≤ m) (h2 : m ≤ 16) {r : ℝ} (h0 : 0 ≤ r) : qref m r = Lg r + A m r := by
  unfold qref
  by_cases hu : r < th m
  · rw [if_pos hu, Lg_small (hu.trans_le (th_le (by omega))), zero_add, show A m r = RR (m % 4) r from if_pos hu, RR_last h1 h2 hu]
  · rw [if_neg hu, A_next (by omega) hu, Lg_large (m := m) (by omega) h0 hu, add_zero]

theorem RR_zero_zero (c : ℕ) : RR c 0 = 0 := by
  match c with
  | 0 => simp only [RR, lv_zero_zero, ite_self]
  | 1 => simp only [RR, lv_zero_zero, ite_self]
  | 2 => simp only [RR, lv_zero_zero, ite_self]
  | (n + 3) => simp only [RR, lv_zero_zero, ite_self]

theorem A_zero (m : ℕ) : A m 0 = 0 := by unfold A; simp only [RR_zero_zero, ite_self]

/-- What slot `s` of the kernel's scratch holds of a probability: the probability itself, its rounding of class zero,
    the coarse part, then the candidates. -/
def slot (s : ℕ) (r : ℝ) : ℝ :=
  if s = 0 then r else if s = 1 then RR 0 r else if s = 2 then Lg r else if s ≤ 5 then A (s - 2) r else A (s - 1) r

theorem slot_zero (s : ℕ) : slot s 0 = 0 := by
  unfold slot Lg; simp only [RR_zero_zero, A_zero, ite_self]

theorem qref_zero (m : ℕ) : qref m 0 = 0 := by unfold qref; simp only [lv_zero_zero, ite_self]

/-- The output error of candidate `m` from the products with the slots, as the kernel combines them. -/
def kerr (m : ℕ) (O : ℕ → EReal) : EReal :=
  if m ≤ 3 then O (m + 2) - O 0 - O (m + 5)
  else if m = 4 then O 1 - O 0 - O 9
  else if m ≤ 12 then O 2 - O 0 + O (m + 1) - O (m + 5)
  else O 2 - O 0 + O (m + 1)

/-- The same on reals, whose error is the reference's. -/
theorem qref_eq_slots {m : ℕ} (h1 : 1 ≤ m) (h2 : m ≤ 16) {r : ℝ} (h0 : 0 ≤ r) :
    qref m r - r = if m ≤ 3 then slot (m + 2) r - slot 0 r - slot (m + 5) r
      else if m = 4 then slot 1 r - slot 0 r - slot 9 r
      else if m ≤ 12 then slot 2 r - slot 0 r + slot (m + 1) r - slot (m + 5) r
      else slot 2 r - slot 0 r + slot (m + 1) r := by
  have s0 : slot 0 r = r := rfl
  have s1 : slot 1 r = RR 0 r := rfl
  have s2 : slot 2 r = Lg r := rfl
  have sA : ∀ k, 5 ≤ k → slot (k + 1) r = A k r := fun k hk => by
    unfold slot
    rw [if_neg (by omega), if_neg (by omega), if_neg (by omega), if_neg (by omega), Nat.add_sub_cancel]
  split_ifs with a b c
  · have sm : slot (m + 2) r = A m r := by
      unfold slot
      rw [if_neg (by omega), if_neg (by omega), if_neg (by omega), if_pos (by omega), Nat.add_sub_cancel]
    rw [sm, s0, sA (m + 4) (by omega), qref_small h1 a h0]; ring
  · subst b; rw [s1, s0, sA 8 (by omega), qref_four h0]; ring
  · rw [s2, s0, sA m (by omega), sA (m + 4) (by omega), qref_mid (by omega) c h0]; ring
  · rw [s2, s0, sA m (by omega), qref_last (by omega) h2 h0]; ring

/-! ## Errors through sums that may be infinite -/

/-- An extended real that is no real. -/
def Inf (x : EReal) : Prop := x = ⊥ ∨ x = ⊤

theorem Inf.add {x : EReal} (h : Inf x) (y : EReal) : Inf (x + y) := by
  rcases h with rfl | rfl
  · exact .inl (EReal.bot_add y)
  · rcases ereal_cases y with rfl | rfl | ⟨r, rfl⟩
    · exact .inl rfl
    · exact .inr rfl
    · exact .inr (EReal.top_add_coe r)

theorem Inf.neg {x : EReal} (h : Inf x) : Inf (-x) := by
  rcases h with rfl | rfl
  · exact .inr rfl
  · exact .inl rfl

theorem Inf.sub {x : EReal} (h : Inf x) (y : EReal) : Inf (x - y) := by rw [sub_eq_add_neg]; exact h.add _
theorem Inf.sub' {x : EReal} (y : EReal) (h : Inf x) : Inf (y - x) := by rw [sub_eq_add_neg, add_comm]; exact h.neg.add _

theorem Inf.sq {x : EReal} (h : Inf x) : x * x = ⊤ := by
  rcases h with rfl | rfl
  · exact EReal.bot_mul_bot
  · exact EReal.top_mul_top

theorem Inf.sum {ι : Type*} [DecidableEq ι] (t : Finset ι) (f : ι → EReal) {j : ι} (hj : j ∈ t) (h : Inf (f j)) : Inf (∑ i ∈ t, f i) := by
  rw [← Finset.add_sum_erase t f hj]; exact h.add _

/-- The squared error of candidate `m`, whether every product is real or not. -/
theorem err_sq {n : ℕ} (m : ℕ) (h1 : 1 ≤ m) (h2 : m ≤ 16) (p : Fin n → ℝ) (hp : ∀ j, 0 ≤ p j) (v : Fin n → EReal) :
    kerr m (fun s => ∑ j, v j * (slot s (p j) : EReal)) * kerr m (fun s => ∑ j, v j * (slot s (p j) : EReal))
      = ((∑ j, (qref m (p j) : EReal) * v j) - ∑ j, (p j : EReal) * v j) * ((∑ j, (qref m (p j) : EReal) * v j) - ∑ j, (p j : EReal) * v j) := by
  by_cases hall : ∀ j, p j = 0 ∨ ∃ x : ℝ, v j = x
  · -- every product is real
    choose! w hw using fun j => (show ∃ x : ℝ, p j = 0 ∨ v j = x from
      (hall j).elim (fun h => ⟨0, .inl h⟩) (fun ⟨x, h⟩ => ⟨x, .inr h⟩))
    have hprod : ∀ (f : ℝ → ℝ) (_ : f 0 = 0) (j : Fin n), v j * (f (p j) : EReal) = ((w j * f (p j) : ℝ) : EReal) := fun f hf j => by
      rcases hw j with h | h
      · rw [h, hf, EReal.coe_zero, mul_zero, mul_zero, EReal.coe_zero]
      · rw [h, EReal.coe_mul]
    have hO : ∀ s, (∑ j, v j * (slot s (p j) : EReal)) = ((∑ j, w j * slot s (p j) : ℝ) : EReal) := fun s => by
      rw [← ereal_sum_coe]; exact Finset.sum_congr rfl fun j _ => hprod (slot s) (slot_zero s) j
    have hq : (∑ j, (qref m (p j) : EReal) * v j) = ((∑ j, w j * qref m (p j) : ℝ) : EReal) := by
      rw [← ereal_sum_coe]; exact Finset.sum_congr rfl fun j _ => by rw [mul_comm]; exact hprod (qref m) (qref_zero m) j
    have hr : (∑ j, (p j : EReal) * v j) = ((∑ j, w j * p j : ℝ) : EReal) := by
      rw [← ereal_sum_coe]; exact Finset.sum_congr rfl fun j _ => by rw [mul_comm]; exact hprod id rfl j
    have key : kerr m (fun s => ∑ j, v j * (slot s (p j) : EReal)) = (∑ j, (qref m (p j) : EReal) * v j) - ∑ j, (p j : EReal) * v j := by
      rw [hq, hr]
      unfold kerr
      simp only [hO]
      have hd : (∑ j, w j * qref m (p j)) - ∑ j, w j * p j = ∑ j, w j * (qref m (p j) - p j) := by
        rw [← Finset.sum_sub_distrib]; exact Finset.sum_congr rfl fun j _ => by ring
      have hs : ((∑ j, w j * qref m (p j) : ℝ) : EReal) - ((∑ j, w j * p j : ℝ) : EReal) = ((∑ j, w j * (qref m (p j) - p j) : ℝ) : EReal) := by
        rw [← EReal.coe_sub, hd]
      have ht : (∑ j, w j * (qref m (p j) - p j)) = ∑ j, w j * _ := Finset.sum_congr rfl fun j _ => congrArg (w j * ·) (qref_eq_slots h1 h2 (hp j))
      rw [hs, ht]
      split_ifs <;> norm_cast <;> simp only [mul_sub, mul_add, Finset.sum_sub_distrib, Finset.sum_add_distrib]
    rw [key]
  · -- some product is infinite, and with it the reference output and every error
    push Not at hall
    obtain ⟨j, hpj, hvj⟩ := hall
    have hpos : 0 < p j := lt_of_le_of_ne (hp j) (Ne.symm hpj)
    have hv : Inf (v j) := by
      rcases ereal_cases (v j) with h | h | ⟨r, h⟩
      · exact .inl h
      · exact .inr h
      · exact absurd h (hvj r)
    have hterm : Inf (v j * (p j : EReal)) := by
      rcases hv with h | h
      · exact .inl (by rw [h, EReal.bot_mul_coe_of_pos hpos])
      · exact .inr (by rw [h, EReal.top_mul_coe_of_pos hpos])
    have hO : Inf (∑ j, v j * (slot 0 (p j) : EReal)) := Inf.sum _ _ (Finset.mem_univ j) hterm
    have hR : Inf (∑ j, (p j : EReal) * v j) := Inf.sum _ _ (Finset.mem_univ j) (by rw [mul_comm]; exact hterm)
    rw [(hR.sub' _).sq]
    refine Inf.sq ?_
    unfold kerr
    split_ifs
    · exact (hO.sub' _).sub _
    · exact (hO.sub' _).sub _
    · exact ((hO.sub' _).add _).sub _
    · exact (hO.sub' _).add _

end Cert.Math

end
-- ==== Proof.Spec.lean ====
/- What both programs compute for one batch entry and head: the scores, the log-sum-exp of a row, and the sixteen
   candidates' squared output errors of a row, weighted by the squared gradient. -/
module

public import proofs.«01_k».proof.Proof.Quant

@[expose] public section

noncomputable section

namespace Cert.Math

open Idealize.ShloMosaic

/-- Scores of one head: products of codes, times both scales, over the square root of the head dimension. -/
def score (q k : Fin 512 → Fin 64 → EReal) (qs ks : Fin 512 → EReal) (i j : Fin 512) : EReal :=
  (∑ d, q i d * k j d) * qs i * ks j * (((1 / 8 : ℝ)) : EReal)

/-- A probability as a real. -/
def pr (s : Fin 512 → EReal) (j : Fin 512) : ℝ := (prob s j).toReal

theorem pr_coe (s : Fin 512 → EReal) (j : Fin 512) : prob s j = ((pr s j : ℝ) : EReal) := by
  obtain ⟨x, -, -, h⟩ := prob_real (by norm_num) s j
  unfold pr; rw [h, EReal.toReal_coe]

theorem pr_nonneg (s : Fin 512 → EReal) (j : Fin 512) : 0 ≤ pr s j := by
  obtain ⟨x, h0, -, h⟩ := prob_real (by norm_num) s j
  unfold pr; rwa [h, EReal.toReal_coe]

theorem pr_le_one (s : Fin 512 → EReal) (j : Fin 512) : pr s j ≤ 1 := by
  obtain ⟨x, -, h1, h⟩ := prob_real (by norm_num) s j
  unfold pr; rwa [h, EReal.toReal_coe]

/-- The error of candidate `m` in one channel. -/
def err (s : Fin 512 → EReal) (v : Fin 512 → EReal) (m : ℕ) : EReal :=
  (∑ j, (qref m (pr s j) : EReal) * v j) - ∑ j, (pr s j : EReal) * v j

/-- Candidate `m`'s loss of one row. -/
def rowLoss (s : Fin 512 → EReal) (v : Fin 512 → Fin 64 → EReal) (g : Fin 64 → EReal) (m : ℕ) : EReal :=
  ∑ d, err s (fun j => v j d) m * err s (fun j => v j d) m * (g d * g d)

/-- The constant both programs take off a log-sum-exp. -/
def logSeq : EReal := Ideal.ofBits .f32 0x40C7A05B#32

/-! ## The results, of the arguments `q`, `qs`, `k`, `ks`, `v`, `g` indexed by batch, position, head (and channel) -/

/-- The scores of batch `b` and head `h`. -/
def headScore (q : Fin 3 → Fin 512 → Fin 32 → Fin 64 → EReal) (qs : Fin 3 → Fin 512 → Fin 32 → EReal)
    (k : Fin 3 → Fin 512 → Fin 32 → Fin 64 → EReal) (ks : Fin 3 → Fin 512 → Fin 32 → EReal) (b : Fin 3) (h : Fin 32) :
    Fin 512 → Fin 512 → EReal :=
  score (fun a d => q b a h d) (fun a d => k b a h d) (fun a => qs b a h) (fun a => ks b a h)

/-- The loss of row `a` of batch `b` and head `h` under candidate number `n`. -/
def headRow (q : Fin 3 → Fin 512 → Fin 32 → Fin 64 → EReal) (qs : Fin 3 → Fin 512 → Fin 32 → EReal)
    (k : Fin 3 → Fin 512 → Fin 32 → Fin 64 → EReal) (ks : Fin 3 → Fin 512 → Fin 32 → EReal)
    (v g : Fin 3 → Fin 512 → Fin 32 → Fin 64 → EReal) (b : Fin 3) (h : Fin 32) (a : Fin 512) (n : ℕ) : EReal :=
  rowLoss (headScore q qs k ks b h a) (fun j d => v b j h d) (fun d => g b a h d) n

/-- The loss of head `h` under candidate number `n`, over all batches and rows. -/
def headLoss (q : Fin 3 → Fin 512 → Fin 32 → Fin 64 → EReal) (qs : Fin 3 → Fin 512 → Fin 32 → EReal)
    (k : Fin 3 → Fin 512 → Fin 32 → Fin 64 → EReal) (ks : Fin 3 → Fin 512 → Fin 32 → EReal)
    (v g : Fin 3 → Fin 512 → Fin 32 → Fin 64 → EReal) (h : Fin 32) (n : ℕ) : EReal :=
  ∑ b : Fin 3, ∑ a : Fin 512, headRow q qs k ks v g b h a n

end Cert.Math

end
-- ==== Proof.KPay.lean ====
/- The kernel's payloads read at an index, on the extended reals. -/
module

public import proofs.«01_k».proof.Proof.Rows
public import proofs.«01_k».proof.Proof.Spec
public import Idealize.ShloMosaic.Lib.Pointwise

@[expose] public section

set_option maxRecDepth 65536

noncomputable section

namespace Cert.KernelIdeal.Hand

open Cert.KernelIdeal Cert.KernelIdeal.Gen Cert.Math
open Idealize.ShloMosaic Idealize.ShloMosaic.TcCoe

theorem named_scale : Named.named (F := Ideal) κ "log2e_over_8" (φ := .f32) 0x3E38AA3B#32 = (((1 / 8) * (Real.log 2)⁻¹ : ℝ) : EReal) :=
  IdealRules.named_const.ideal_named_scalar κ "log2e_over_8" _ _ rfl

theorem named_ln2 : Named.named (F := Ideal) κ "ln2" (φ := .f32) 0x3F317218#32 = ((Real.log 2 : ℝ) : EReal) :=
  IdealRules.named_const.ideal_named_scalar κ "ln2" _ _ rfl

theorem named_below : Named.named (F := Ideal) κ "below_one" (φ := .f32) 0x3F7FFFFF#32 = (⊤ : EReal) :=
  IdealRules.named_const.ideal_named_scalar κ "below_one" _ _ rfl

theorem pay2_apply (v1 v6 : Vec Ideal S1x1x512 .f32) (v12 v14 : Vec Ideal S1x1x512x64 .fp8e4m3) (j i : Fin 512) :
    k0_pay2 v1 v6 v12 v14 (ix2 j i)
      = (∑ d : Fin 64, v12 (ix4 0 0 j d) * v14 (ix4 0 0 i d)) * (v1 (ix3 0 0 i) * (((1 / 8) * (Real.log 2)⁻¹ : ℝ) : EReal)) * v6 (ix3 0 0 j) := by
  pointwise [k0_pay2]
  rw [named_scale]
  split_ifs <;> rfl

theorem ofBits_neg_inf : Ideal.ofBits .f32 0xFF800000#32 = ⊥ := by simp [Ideal.ofBits, Ideal.ieee]

theorem pay3_apply (v : Vec Ideal S512x512 .f32) (u : Fin 1) (i : Fin 512) :
    k0_pay3 v (ix2 u i) = rowMax (fun j => v (ix2 j i)) := by
  pointwise [k0_pay3]
  rw [ofBits_neg_inf]; rfl

theorem pay4_apply (v w : Vec Ideal S512x512 .f32) (j i : Fin 512) :
    k0_pay4 v w (ix2 j i) = Ideal.exp2 (w (ix2 j i) - rowMax (fun j => v (ix2 j i))) := by
  pointwise [k0_pay4]
  rw [pay3_apply]; rfl

theorem pay5_apply (v w : Vec Ideal S512x512 .f32) (j i : Fin 512) :
    k0_pay5 v w (ix2 j i) = Ideal.exp2 (w (ix2 j i) - rowMax (fun j => v (ix2 j i))) := by
  pointwise [k0_pay5]
  rw [pay4_apply]

theorem pay6_apply (v25 : FVec Ideal S1x512 .f32) (u : Fin 1) (i : Fin 512) :
    k0_pay6 v25 (ix2 u i) = v25 (ix2 u i) * ((Real.log 2 : ℝ) : EReal) := by
  pointwise [k0_pay6]
  rw [named_ln2]

theorem pay7_apply (v25 : FVec Ideal S1x512 .f32) (v29 : FVec Ideal S512x512 .f32) (u : Fin 1) (i : Fin 512) :
    k0_pay7 v25 v29 (ix2 u i) = v25 (ix2 u i) * ((Real.log 2 : ℝ) : EReal) + Ideal.log (∑ j : Fin 512, v29 (ix2 j i)) := by
  pointwise [k0_pay7]
  rw [pay6_apply]

theorem pay8_apply (v25 : FVec Ideal S1x512 .f32) (v29 : FVec Ideal S512x512 .f32) (a b : Fin 1) (i : Fin 512) :
    k0_pay8 v25 v29 (ix3 a b i) = v25 (ix2 0 i) * ((Real.log 2 : ℝ) : EReal) + Ideal.log (∑ j : Fin 512, v29 (ix2 j i)) - logSeq := by
  pointwise [k0_pay8]
  rw [pay7_apply]; rfl

theorem pay9_apply (v25 : FVec Ideal S1x512 .f32) (v29 : FVec Ideal S512x512 .f32) (u : Fin 1) (i : Fin 512) :
    k0_pay9 v25 v29 (ix2 u i) = min (Ideal.exp (v25 (ix2 u i) * ((Real.log 2 : ℝ) : EReal)
      - (v25 (ix2 u i) * ((Real.log 2 : ℝ) : EReal) + Ideal.log (∑ j : Fin 512, v29 (ix2 j i))))) ⊤ := by
  pointwise [k0_pay9]
  rw [pay6_apply, pay7_apply, named_below]

theorem pay10_apply (v25 : FVec Ideal S1x512 .f32) (v29 : FVec Ideal S512x512 .f32) (v49 : Vec Ideal S32x512 .f32) (a : Fin 32) (i : Fin 512) :
    k0_pay10 v25 v29 v49 (ix2 a i) = v49 (ix2 a i) * k0_pay9 v25 v29 (ix2 0 i) := by
  pointwise [k0_pay10]

theorem outv_apply (vt : FVec Ideal S64x512 .bf16) (a : Vec Ideal S1x512x512 .bf16) (d : Fin 64) (i : Fin 512) :
    outv vt a (ix2 d i) = ∑ j : Fin 512, vt (ix2 d j) * a (ix3 0 j i) := by
  pointwise [outv]

theorem lossv_apply (g2 e : FVec Ideal S64x512 .f32) (u : Fin 1) (i : Fin 512) :
    lossv g2 e (ix2 u i) = ∑ d : Fin 64, e (ix2 d i) * e (ix2 d i) * g2 (ix2 d i) := by
  pointwise [lossv]

theorem pay481_apply (v : Vec Ideal S1x1x64x512 .bf16) (d : Fin 64) (j : Fin 512) : k0_pay481 v (ix2 d j) = v (ix4 0 0 d j) := by
  pointwise [k0_pay481]

theorem pay482_apply (v : Vec Ideal S1x1x64x512 .bf16) (d : Fin 64) (j : Fin 512) :
    k0_pay482 v (ix2 d j) = v (ix4 0 0 d j) * v (ix4 0 0 d j) := by
  pointwise [k0_pay482]

theorem tr_apply (x : FVec Ideal S16x512 .f32) (i : Fin 512) (m : Fin 16) :
    transpose S512x16 [1, 0] x transposes_S16x512_p1_0_S512x16 (ix2 i m) = x (ix2 m i) := by pointwise

theorem cat_apply (L : Fin 16 → FVec Ideal S1x512 .f32) (i : Fin 512) (m : Fin 16) :
    concatenate S16x512 0 [⟨S1x512, L 0⟩, ⟨S1x512, L 1⟩, ⟨S1x512, L 2⟩, ⟨S1x512, L 3⟩, ⟨S1x512, L 4⟩, ⟨S1x512, L 5⟩, ⟨S1x512, L 6⟩, ⟨S1x512, L 7⟩,
      ⟨S1x512, L 8⟩, ⟨S1x512, L 9⟩, ⟨S1x512, L 10⟩, ⟨S1x512, L 11⟩, ⟨S1x512, L 12⟩, ⟨S1x512, L 13⟩, ⟨S1x512, L 14⟩, ⟨S1x512, L 15⟩]
      concatenates_S1x512_S1x512_S1x512_S1x512_S1x512_S1x512_S1x512_S1x512_S1x512_S1x512_S1x512_S1x512_S1x512_S1x512_S1x512_S1x512_S16x512_d0
      (ix2 m i) = L m (ix2 0 i) := by
  refine (concatenate_ofFn_unit_apply' (t := S16x512) (s₁ := S1x512) 0 L
    concatenates_S1x512_S1x512_S1x512_S1x512_S1x512_S1x512_S1x512_S1x512_S1x512_S1x512_S1x512_S1x512_S1x512_S1x512_S1x512_S1x512_S16x512_d0 rfl (ix2 m i)).trans ?_
  refine congrArg (L m) ?_
  funext k; fin_cases k <;> rfl

/-- The block of losses at row `i`, candidate `m + 1`. -/
theorem rowsT_apply (vt : FVec Ideal S64x512 .bf16) (g2 : FVec Ideal S64x512 .f32) (S : Fin 18 → Vec Ideal S1x512x512 .bf16)
    (O : Fin 64 → Fin 512 → ℕ → EReal) (hO : ∀ d i (s : Fin 18), outv vt (S s) (ix2 d i) = O d i s.val) (i : Fin 512) (m : Fin 16) :
    rowsT vt g2 S (ix2 i m) = ∑ d : Fin 64, kerr (m.val + 1) (O d i) * kerr (m.val + 1) (O d i) * g2 (ix2 d i) := by
  have hA : ∀ a b u, lossA vt g2 S a b (ix2 u i)
      = ∑ d : Fin 64, (O d i a.val - O d i 0 - O d i b.val) * (O d i a.val - O d i 0 - O d i b.val) * g2 (ix2 d i) := fun a b u => by
    unfold lossA; rw [lossv_apply]; pointwise; simp only [hO]; rfl
  have hB : ∀ a b u, lossB vt g2 S a b (ix2 u i)
      = ∑ d : Fin 64, (O d i 2 - O d i 0 + O d i a.val - O d i b.val) * (O d i 2 - O d i 0 + O d i a.val - O d i b.val) * g2 (ix2 d i) := fun a b u => by
    unfold lossB; rw [lossv_apply]; pointwise; simp only [hO]; rfl
  have hC : ∀ a u, lossC vt g2 S a (ix2 u i)
      = ∑ d : Fin 64, (O d i 2 - O d i 0 + O d i a.val) * (O d i 2 - O d i 0 + O d i a.val) * g2 (ix2 d i) := fun a u => by
    unfold lossC; rw [lossv_apply]; pointwise; simp only [hO]; rfl
  have hL : rowsT vt g2 S (ix2 i m)
      = ![lossA vt g2 S 3 6, lossA vt g2 S 4 7, lossA vt g2 S 5 8, lossA vt g2 S 1 9, lossB vt g2 S 6 10, lossB vt g2 S 7 11,
          lossB vt g2 S 8 12, lossB vt g2 S 9 13, lossB vt g2 S 10 14, lossB vt g2 S 11 15, lossB vt g2 S 12 16, lossB vt g2 S 13 17,
          lossC vt g2 S 14, lossC vt g2 S 15, lossC vt g2 S 16, lossC vt g2 S 17] m (ix2 0 i) := by
    refine Eq.trans ?_ (cat_apply _ i m)
    exact tr_apply _ i m
  rw [hL]
  fin_cases m
  · exact hA 3 6 0
  · exact hA 4 7 0
  · exact hA 5 8 0
  · exact hA 1 9 0
  · exact hB 6 10 0
  · exact hB 7 11 0
  · exact hB 8 12 0
  · exact hB 9 13 0
  · exact hB 10 14 0
  · exact hB 11 15 0
  · exact hB 12 16 0
  · exact hB 13 17 0
  · exact hC 14 0
  · exact hC 15 0
  · exact hC 16 0
  · exact hC 17 0

end Cert.KernelIdeal.Hand
-- ==== Proof.ChunkValue.lean ====
/- The stores of a chunk read at an index: slot by slot the rounding of `Quant.lean`. -/
module

public import proofs.«01_k».proof.Proof.Chunk
public import proofs.«01_k».proof.Proof.Quant
public import Idealize.ShloMosaic.Lib.Pointwise

@[expose] public section

set_option maxRecDepth 16384

noncomputable section

namespace Cert.KernelIdeal.Hand

open Cert.KernelIdeal Cert.KernelIdeal.Gen Cert.Math
open Idealize.ShloMosaic Idealize.ShloMosaic.TcCoe

theorem pw_apply (w : BitVec 32) (j : S32x512.Idx) : (pw w : FVec Ideal S32x512 .f32) j = Ideal.ofBits .f32 w := rfl

theorem stp_apply (x p : FVec Ideal S32x512 .f32) {a b : BitVec 32} {m n : ℕ} (ha : Ideal.ofBits .f32 a = ((th m : ℝ) : EReal))
    (hb : Ideal.ofBits .f32 b = ((th n : ℝ) : EReal)) {j : S32x512.Idx} {r : ℝ} (hx : x j = (r : EReal)) :
    stp x a b p j = if r < th m then ((th n : ℝ) : EReal) else p j := by
  unfold stp
  pointwise
  rw [pw_apply, pw_apply, ha, hb, hx]
  by_cases h : r < th m <;> simp [h]

theorem sel_apply (x : FVec Ideal S32x512 .f32) (p q : FVec Ideal S32x512 .bf16) {a : BitVec 32} {m : ℕ}
    (ha : Ideal.ofBits .f32 a = ((th m : ℝ) : EReal)) {j : S32x512.Idx} {r : ℝ} (hx : x j = (r : EReal)) :
    sel x a p q j = if r < th m then p j else q j := by
  unfold sel
  pointwise
  rw [pw_apply, ha, hx]
  by_cases h : r < th m <;> simp [h]

theorem seven : Ideal.ofBits .f32 0x40E00000#32 = ((7 : ℝ) : EReal) := by
  simp [Ideal.ofBits, Ideal.ieee, -EReal.coe_mul]; norm_num

theorem rnd_apply (x p : FVec Ideal S32x512 .f32) {j : S32x512.Idx} {r : ℝ} {e : ℕ} (hx : x j = (r : EReal))
    (hp : p j = ((th e : ℝ) : EReal)) : rnd x p j = ((lv e r : ℝ) : EReal) := by
  unfold rnd
  pointwise
  rw [pw_apply, seven, hx, hp, Ideal.div_coe (th_pos e).ne']
  have h : 1 / th e = 2 ^ e := by rw [eq_comm, eq_div_iff (th_pos e).ne', mul_comm]; exact th_mul e
  rw [h]
  unfold lv
  norm_cast

theorem bits1 : Ideal.ofBits .f32 0x3F000000#32 = ((th 1 : ℝ) : EReal) := by
  simp [Ideal.ofBits, Ideal.ieee, th, -EReal.coe_mul]; norm_num
theorem bits2 : Ideal.ofBits .f32 0x3E800000#32 = ((th 2 : ℝ) : EReal) := by
  simp [Ideal.ofBits, Ideal.ieee, th, -EReal.coe_mul]; norm_num
theorem bits3 : Ideal.ofBits .f32 0x3E000000#32 = ((th 3 : ℝ) : EReal) := by
  simp [Ideal.ofBits, Ideal.ieee, th, -EReal.coe_mul]; norm_num
theorem bits4 : Ideal.ofBits .f32 0x3D800000#32 = ((th 4 : ℝ) : EReal) := by
  simp [Ideal.ofBits, Ideal.ieee, th, -EReal.coe_mul]; norm_num
theorem bits5 : Ideal.ofBits .f32 0x3D000000#32 = ((th 5 : ℝ) : EReal) := by
  simp [Ideal.ofBits, Ideal.ieee, th, -EReal.coe_mul]; norm_num
theorem bits6 : Ideal.ofBits .f32 0x3C800000#32 = ((th 6 : ℝ) : EReal) := by
  simp [Ideal.ofBits, Ideal.ieee, th, -EReal.coe_mul]; norm_num
theorem bits7 : Ideal.ofBits .f32 0x3C000000#32 = ((th 7 : ℝ) : EReal) := by
  simp [Ideal.ofBits, Ideal.ieee, th, -EReal.coe_mul]; norm_num
theorem bits8 : Ideal.ofBits .f32 0x3B800000#32 = ((th 8 : ℝ) : EReal) := by
  simp [Ideal.ofBits, Ideal.ieee, th, -EReal.coe_mul]; norm_num
theorem bits9 : Ideal.ofBits .f32 0x3B000000#32 = ((th 9 : ℝ) : EReal) := by
  simp [Ideal.ofBits, Ideal.ieee, th, -EReal.coe_mul]; norm_num
theorem bits10 : Ideal.ofBits .f32 0x3A800000#32 = ((th 10 : ℝ) : EReal) := by
  simp [Ideal.ofBits, Ideal.ieee, th, -EReal.coe_mul]; norm_num
theorem bits11 : Ideal.ofBits .f32 0x3A000000#32 = ((th 11 : ℝ) : EReal) := by
  simp [Ideal.ofBits, Ideal.ieee, th, -EReal.coe_mul]; norm_num
theorem bits12 : Ideal.ofBits .f32 0x39800000#32 = ((th 12 : ℝ) : EReal) := by
  simp [Ideal.ofBits, Ideal.ieee, th, -EReal.coe_mul]; norm_num
theorem bits13 : Ideal.ofBits .f32 0x39000000#32 = ((th 13 : ℝ) : EReal) := by
  simp [Ideal.ofBits, Ideal.ieee, th, -EReal.coe_mul]; norm_num
theorem bits14 : Ideal.ofBits .f32 0x38800000#32 = ((th 14 : ℝ) : EReal) := by
  simp [Ideal.ofBits, Ideal.ieee, th, -EReal.coe_mul]; norm_num
theorem bits15 : Ideal.ofBits .f32 0x38000000#32 = ((th 15 : ℝ) : EReal) := by
  simp [Ideal.ofBits, Ideal.ieee, th, -EReal.coe_mul]; norm_num
theorem bits16 : Ideal.ofBits .f32 0x37800000#32 = ((th 16 : ℝ) : EReal) := by
  simp [Ideal.ofBits, Ideal.ieee, th, -EReal.coe_mul]; norm_num
theorem bits17 : Ideal.ofBits .f32 0x37000000#32 = ((th 17 : ℝ) : EReal) := by
  simp [Ideal.ofBits, Ideal.ieee, th, -EReal.coe_mul]; norm_num
theorem bits18 : Ideal.ofBits .f32 0x36800000#32 = ((th 18 : ℝ) : EReal) := by
  simp [Ideal.ofBits, Ideal.ieee, th, -EReal.coe_mul]; norm_num
theorem bits19 : Ideal.ofBits .f32 0x36000000#32 = ((th 19 : ℝ) : EReal) := by
  simp [Ideal.ofBits, Ideal.ieee, th, -EReal.coe_mul]; norm_num

theorem zero16_apply (j : S32x512.Idx) : (zero16 : FVec Ideal S32x512 .bf16) j = ((0 : ℝ) : EReal) := by
  have : (zero16 : FVec Ideal S32x512 .bf16) j = Ideal.ofBits .bf16 0x0000#16 := rfl
  rw [this]; simp [Ideal.ofBits, Ideal.ieee]

theorem rnd0_apply (x : FVec Ideal S32x512 .f32) {j : S32x512.Idx} {r : ℝ} (hx : x j = (r : EReal)) :
    rnd0 x j = ((RR 0 r : ℝ) : EReal) := by
  unfold rnd0
  by_cases h16 : r < th 16
  · rw [rnd_apply x _ hx (e := 19) (by simp only [stp_apply x _ bits16 bits19 hx, stp_apply x _ bits12 bits15 hx, stp_apply x _ bits8 bits11 hx, stp_apply x _ bits4 bits7 hx]; simp only [*, if_true, if_false])]
    simp only [RR, *, if_true, if_false]
  by_cases h12 : r < th 12
  · rw [rnd_apply x _ hx (e := 15) (by simp only [stp_apply x _ bits16 bits19 hx, stp_apply x _ bits12 bits15 hx, stp_apply x _ bits8 bits11 hx, stp_apply x _ bits4 bits7 hx]; simp only [*, if_true, if_false])]
    simp only [RR, *, if_true, if_false]
  by_cases h8 : r < th 8
  · rw [rnd_apply x _ hx (e := 11) (by simp only [stp_apply x _ bits16 bits19 hx, stp_apply x _ bits12 bits15 hx, stp_apply x _ bits8 bits11 hx, stp_apply x _ bits4 bits7 hx]; simp only [*, if_true, if_false])]
    simp only [RR, *, if_true, if_false]
  by_cases h4 : r < th 4
  · rw [rnd_apply x _ hx (e := 7) (by simp only [stp_apply x _ bits16 bits19 hx, stp_apply x _ bits12 bits15 hx, stp_apply x _ bits8 bits11 hx, stp_apply x _ bits4 bits7 hx]; simp only [*, if_true, if_false])]
    simp only [RR, *, if_true, if_false]
  rw [rnd_apply x _ hx (e := 3) (by simp only [stp_apply x _ bits16 bits19 hx, stp_apply x _ bits12 bits15 hx, stp_apply x _ bits8 bits11 hx, stp_apply x _ bits4 bits7 hx]; simp only [*, if_false, pw_apply, bits3])]
  simp only [RR, *, if_false]

theorem rnd1_apply (x : FVec Ideal S32x512 .f32) {j : S32x512.Idx} {r : ℝ} (hx : x j = (r : EReal)) :
    rnd1 x j = ((RR 1 r : ℝ) : EReal) := by
  unfold rnd1
  by_cases h13 : r < th 13
  · rw [rnd_apply x _ hx (e := 16) (by simp only [stp_apply x _ bits13 bits16 hx, stp_apply x _ bits9 bits12 hx, stp_apply x _ bits5 bits8 hx]; simp only [*, if_true, if_false])]
    simp only [RR, *, if_true, if_false]
  by_cases h9 : r < th 9
  · rw [rnd_apply x _ hx (e := 12) (by simp only [stp_apply x _ bits13 bits16 hx, stp_apply x _ bits9 bits12 hx, stp_apply x _ bits5 bits8 hx]; simp only [*, if_true, if_false])]
    simp only [RR, *, if_true, if_false]
  by_cases h5 : r < th 5
  · rw [rnd_apply x _ hx (e := 8) (by simp only [stp_apply x _ bits13 bits16 hx, stp_apply x _ bits9 bits12 hx, stp_apply x _ bits5 bits8 hx]; simp only [*, if_true, if_false])]
    simp only [RR, *, if_true, if_false]
  rw [rnd_apply x _ hx (e := 4) (by simp only [stp_apply x _ bits13 bits16 hx, stp_apply x _ bits9 bits12 hx, stp_apply x _ bits5 bits8 hx]; simp only [*, if_false, pw_apply, bits4])]
  simp only [RR, *, if_false]

theorem rnd2_apply (x : FVec Ideal S32x512 .f32) {j : S32x512.Idx} {r : ℝ} (hx : x j = (r : EReal)) :
    rnd2 x j = ((RR 2 r : ℝ) : EReal) := by
  unfold rnd2
  by_cases h14 : r < th 14
  · rw [rnd_apply x _ hx (e := 17) (by simp only [stp_apply x _ bits14 bits17 hx, stp_apply x _ bits10 bits13 hx, stp_apply x _ bits6 bits9 hx]; simp only [*, if_true, if_false])]
    simp only [RR, *, if_true, if_false]
  by_cases h10 : r < th 10
  · rw [rnd_apply x _ hx (e := 13) (by simp only [stp_apply x _ bits14 bits17 hx, stp_apply x _ bits10 bits13 hx, stp_apply x _ bits6 bits9 hx]; simp only [*, if_true, if_false])]
    simp only [RR, *, if_true, if_false]
  by_cases h6 : r < th 6
  · rw [rnd_apply x _ hx (e := 9) (by simp only [stp_apply x _ bits14 bits17 hx, stp_apply x _ bits10 bits13 hx, stp_apply x _ bits6 bits9 hx]; simp only [*, if_true, if_false])]
    simp only [RR, *, if_true, if_false]
  rw [rnd_apply x _ hx (e := 5) (by simp only [stp_apply x _ bits14 bits17 hx, stp_apply x _ bits10 bits13 hx, stp_apply x _ bits6 bits9 hx]; simp only [*, if_false, pw_apply, bits5])]
  simp only [RR, *, if_false]

theorem rnd3_apply (x : FVec Ideal S32x512 .f32) {j : S32x512.Idx} {r : ℝ} (hx : x j = (r : EReal)) :
    rnd3 x j = ((RR 3 r : ℝ) : EReal) := by
  unfold rnd3
  by_cases h15 : r < th 15
  · rw [rnd_apply x _ hx (e := 18) (by simp only [stp_apply x _ bits15 bits18 hx, stp_apply x _ bits11 bits14 hx, stp_apply x _ bits7 bits10 hx]; simp only [*, if_true, if_false])]
    simp only [RR, *, if_true, if_false]
  by_cases h11 : r < th 11
  · rw [rnd_apply x _ hx (e := 14) (by simp only [stp_apply x _ bits15 bits18 hx, stp_apply x _ bits11 bits14 hx, stp_apply x _ bits7 bits10 hx]; simp only [*, if_true, if_false])]
    simp only [RR, *, if_true, if_false]
  by_cases h7 : r < th 7
  · rw [rnd_apply x _ hx (e := 10) (by simp only [stp_apply x _ bits15 bits18 hx, stp_apply x _ bits11 bits14 hx, stp_apply x _ bits7 bits10 hx]; simp only [*, if_true, if_false])]
    simp only [RR, *, if_true, if_false]
  rw [rnd_apply x _ hx (e := 6) (by simp only [stp_apply x _ bits15 bits18 hx, stp_apply x _ bits11 bits14 hx, stp_apply x _ bits7 bits10 hx]; simp only [*, if_false, pw_apply, bits6])]
  simp only [RR, *, if_false]

theorem st_apply (y : FVec Ideal S32x512 .bf16) (u : Fin 1) (a : Fin 32) (b : Fin 512) : st y (ix3 u a b) = y (ix2 a b) := by
  unfold st; pointwise

/-- A chunk's pieces hold, slot by slot, what `slot` gives of the probabilities. -/
theorem pieces_apply (x : FVec Ideal S32x512 .f32) (o : ℕ) (ho : o + 32 ≤ 512) (R : Fin 512 → Fin 512 → ℝ)
    (hx : ∀ (a : Fin 32) (b : Fin 512), x (ix2 a b) = ((R ⟨o + a.val, by omega⟩ b : ℝ) : EReal)) :
    ∀ p ∈ pieces x o ho, ∀ z, p.2 z = ((slot (p.1.emb z 0).val (R (p.1.emb z 1) (p.1.emb z 2)) : ℝ) : EReal) := by
  have key : ∀ (s : ℕ) (hs : s < 18) (y : FVec Ideal S32x512 .bf16)
      (hy : ∀ (a : Fin 32) (b : Fin 512), y (ix2 a b) = ((slot s (R ⟨o + a.val, by omega⟩ b) : ℝ) : EReal)) (z : S1x32x512.Idx),
      st y z = ((slot ((Rect.unit (s := S18x512x512) ![s, o, 0] S1x32x512.size (inb_slot hs ho)).emb z 0).val
        (R ((Rect.unit (s := S18x512x512) ![s, o, 0] S1x32x512.size (inb_slot hs ho)).emb z 1)
          ((Rect.unit (s := S18x512x512) ![s, o, 0] S1x32x512.size (inb_slot hs ho)).emb z 2)) : ℝ) : EReal) := by
    intro s hs y hy z
    obtain ⟨u, a, b, rfl⟩ : ∃ u a b, z = ix3 u a b := ⟨z 0, z 1, z 2, by funext k; fin_cases k <;> rfl⟩
    rw [st_apply, hy]
    have e0 : ((Rect.unit (s := S18x512x512) ![s, o, 0] S1x32x512.size (inb_slot hs ho)).emb (ix3 u a b) 0).val = s := by
      show s + 1 * u.val = s
      omega
    have e1 : ((Rect.unit (s := S18x512x512) ![s, o, 0] S1x32x512.size (inb_slot hs ho)).emb (ix3 u a b) 1) = (⟨o + a.val, by omega⟩ : Fin 512) :=
      Fin.ext (by show o + 1 * a.val = o + a.val; omega)
    have e2 : ((Rect.unit (s := S18x512x512) ![s, o, 0] S1x32x512.size (inb_slot hs ho)).emb (ix3 u a b) 2) = b :=
      Fin.ext (by show 0 + 1 * b.val = b.val; omega)
    rw [e0, e1, e2]
  unfold pieces
  simp only [List.forall_mem_cons, List.not_mem_nil, IsEmpty.forall_iff, implies_true, and_true]
  refine ⟨fun z => key 16 (by decide) _ (fun a b => by rw [sel_apply x _ _ bits15 (hx a b), rnd3_apply x (hx a b), zero16_apply]; simp only [slot, A]; norm_num; split_ifs <;> rfl) z,
    fun z => key 12 (by decide) _ (fun a b => by rw [sel_apply x _ _ bits11 (hx a b), rnd3_apply x (hx a b), zero16_apply]; simp only [slot, A]; norm_num; split_ifs <;> rfl) z,
    fun z => key 8 (by decide) _ (fun a b => by rw [sel_apply x _ _ bits7 (hx a b), rnd3_apply x (hx a b), zero16_apply]; simp only [slot, A]; norm_num; split_ifs <;> rfl) z,
    fun z => key 5 (by decide) _ (fun a b => by rw [sel_apply x _ _ bits3 (hx a b), rnd3_apply x (hx a b), rnd0_apply x (hx a b)]; simp only [slot, A]; norm_num; split_ifs <;> rfl) z,
    fun z => key 15 (by decide) _ (fun a b => by rw [sel_apply x _ _ bits14 (hx a b), rnd2_apply x (hx a b), zero16_apply]; simp only [slot, A]; norm_num; split_ifs <;> rfl) z,
    fun z => key 11 (by decide) _ (fun a b => by rw [sel_apply x _ _ bits10 (hx a b), rnd2_apply x (hx a b), zero16_apply]; simp only [slot, A]; norm_num; split_ifs <;> rfl) z,
    fun z => key 7 (by decide) _ (fun a b => by rw [sel_apply x _ _ bits6 (hx a b), rnd2_apply x (hx a b), zero16_apply]; simp only [slot, A]; norm_num; split_ifs <;> rfl) z,
    fun z => key 4 (by decide) _ (fun a b => by rw [sel_apply x _ _ bits2 (hx a b), rnd2_apply x (hx a b), rnd0_apply x (hx a b)]; simp only [slot, A]; norm_num; split_ifs <;> rfl) z,
    fun z => key 14 (by decide) _ (fun a b => by rw [sel_apply x _ _ bits13 (hx a b), rnd1_apply x (hx a b), zero16_apply]; simp only [slot, A]; norm_num; split_ifs <;> rfl) z,
    fun z => key 10 (by decide) _ (fun a b => by rw [sel_apply x _ _ bits9 (hx a b), rnd1_apply x (hx a b), zero16_apply]; simp only [slot, A]; norm_num; split_ifs <;> rfl) z,
    fun z => key 6 (by decide) _ (fun a b => by rw [sel_apply x _ _ bits5 (hx a b), rnd1_apply x (hx a b), zero16_apply]; simp only [slot, A]; norm_num; split_ifs <;> rfl) z,
    fun z => key 3 (by decide) _ (fun a b => by rw [sel_apply x _ _ bits1 (hx a b), rnd1_apply x (hx a b), rnd0_apply x (hx a b)]; simp only [slot, A]; norm_num; split_ifs <;> rfl) z,
    fun z => key 17 (by decide) _ (fun a b => by rw [sel_apply x _ _ bits16 (hx a b), rnd0_apply x (hx a b), zero16_apply]; simp only [slot, A]; norm_num; split_ifs <;> rfl) z,
    fun z => key 13 (by decide) _ (fun a b => by rw [sel_apply x _ _ bits12 (hx a b), rnd0_apply x (hx a b), zero16_apply]; simp only [slot, A]; norm_num; split_ifs <;> rfl) z,
    fun z => key 9 (by decide) _ (fun a b => by rw [sel_apply x _ _ bits8 (hx a b), rnd0_apply x (hx a b), zero16_apply]; simp only [slot, A]; norm_num; split_ifs <;> rfl) z,
    fun z => key 2 (by decide) _ (fun a b => by rw [sel_apply x _ _ bits4 (hx a b), zero16_apply, rnd0_apply x (hx a b)]; simp only [slot, Lg]; split_ifs <;> simp_all) z,
    fun z => key 1 (by decide) _ (fun a b => (rnd0_apply x (hx a b)).trans (by simp [slot])) z,
    fun z => key 0 (by decide) _ (fun a b => (hx a b).trans (by simp [slot])) z⟩

end Cert.KernelIdeal.Hand
-- ==== Proof.KVal.lean ====
/- What the run leaves, on the extended reals, in the terms of `Spec.lean`. -/
module

public import proofs.«01_k».proof.Proof.KPay
public import proofs.«01_k».proof.Proof.ChunkValue

@[expose] public section

set_option maxRecDepth 65536

noncomputable section

namespace Cert.KernelIdeal.Hand

open Cert.KernelIdeal Cert.KernelIdeal.Gen Cert.Math
open Idealize.ShloMosaic Idealize.ShloMosaic.TcCoe

section
variable (c : Dev nD) (i : grid0.Coords)
  (arg2 : Memref sig .tc .vmem S1x1x512x64 .fp8e4m3) (harg2 : arg2.IsWhole)
  (arg3 : Memref sig .tc .vmem S1x1x512x64 .fp8e4m3) (harg3 : arg3.IsWhole)
  (arg4 : Memref sig .tc .vmem S1x32x512 .f32) (harg4 : arg4.IsWhole)
  (arg5 : Memref sig .tc .vmem S1x32x512 .f32) (harg5 : arg5.IsWhole)
  (arg6 : Memref sig .tc .vmem S1x1x64x512 .bf16) (harg6 : arg6.IsWhole)
  (arg7 : Memref sig .tc .vmem S1x1x64x512 .bf16) (harg7 : arg7.IsWhole)
  (arg11 : Memref sig .tc .vmem S512x512 .f32) (arg12 : Memref sig .tc .vmem S18x512x512 .bf16)
  (x0 : Vec Ideal S1x1x512x64 .fp8e4m3) (x1 : Vec Ideal S1x1x512x64 .fp8e4m3) (x2 : Vec Ideal S1x32x512 .f32) (x3 : Vec Ideal S1x32x512 .f32)
  (x4 : Vec Ideal S1x1x64x512 .bf16) (x5 : Vec Ideal S1x1x64x512 .bf16)

/-- The scores of the block: head `i 1`. -/
def sco (a b : Fin 512) : EReal :=
  score (fun a d => x0 (ix4 0 0 a d)) (fun b d => x1 (ix4 0 0 b d)) (fun a => x2 (ix3 0 (i 1) a)) (fun b => x3 (ix3 0 (i 1) b)) a b

theorem load_tok (m : Memref sig .tc .vmem S1x1x512x64 .fp8e4m3) (hm : m.IsWhole) (x : Vec Ideal S1x1x512x64 .fp8e4m3) (inb) (a : Fin 512) (d : Fin 64) :
    View.readAt (Elt Ideal) m.view (Rect.unit (s := S1x1x512x64) ![0, 0, 0, 0] S1x1x512x64.size inb).toLoadRect (hm.unread x) (ix4 0 0 a d) = x (ix4 0 0 a d) := by
  show m.view.read (Elt Ideal) (hm.unread x) _ = _
  rw [hm.read_unread]
  congr 1
  funext k; fin_cases k
  · rfl
  · rfl
  · exact Fin.ext (by show 0 + 1 * a.val = a.val; omega)
  · exact Fin.ext (by show 0 + 1 * d.val = d.val; omega)

theorem load_chan (m : Memref sig .tc .vmem S1x1x64x512 .bf16) (hm : m.IsWhole) (x : Vec Ideal S1x1x64x512 .bf16) (inb) (d : Fin 64) (a : Fin 512) :
    View.readAt (Elt Ideal) m.view (Rect.unit (s := S1x1x64x512) ![0, 0, 0, 0] S1x1x64x512.size inb).toLoadRect (hm.unread x) (ix4 0 0 d a) = x (ix4 0 0 d a) := by
  show m.view.read (Elt Ideal) (hm.unread x) _ = _
  rw [hm.read_unread]
  congr 1
  funext k; fin_cases k
  · rfl
  · rfl
  · exact Fin.ext (by show 0 + 1 * d.val = d.val; omega)
  · exact Fin.ext (by show 0 + 1 * a.val = a.val; omega)

theorem load_scale (m : Memref sig .tc .vmem S1x32x512 .f32) (hm : m.IsWhole) (x : Vec Ideal S1x32x512 .f32) (inb) (a : Fin 512) :
    View.readAt (Elt Ideal) m.view (Rect.unit (s := S1x32x512) (k0_off1 i) S1x1x512.size inb).toLoadRect (hm.unread x) (ix3 0 0 a) = x (ix3 0 (i 1) a) := by
  show m.view.read (Elt Ideal) (hm.unread x) _ = _
  rw [hm.read_unread]
  congr 1
  funext k; fin_cases k
  · exact Fin.ext (by show k0_off1 i 0 + 1 * 0 = 0; rw [k0_off1_eq]; rfl)
  · exact Fin.ext (by show k0_off1 i 1 + 1 * 0 = (i 1).val; rw [k0_off1_eq]; rfl)
  · exact Fin.ext (by show k0_off1 i 2 + 1 * a.val = a.val; rw [k0_off1_eq]; show 0 + 1 * a.val = a.val; omega)

theorem v23_apply (b a : Fin 512) :
    kernelRun.sl.v23 c i arg2 harg2 arg3 harg3 arg4 harg4 arg5 harg5 arg11 x0 x1 x2 x3 (ix2 b a)
      = sco i x0 x1 x2 x3 a b * (((Real.log 2)⁻¹ : ℝ) : EReal) := by
  unfold kernelRun.sl.v23 kernelRun.sl.HS0_1
  rw [View.readCov_cons_toLoadRect, pay2_apply]
  rw [load_scale, load_scale]
  have hs := Finset.sum_congr (rfl : (Finset.univ : Finset (Fin 64)) = Finset.univ) fun d _ =>
    congrArg₂ (fun u v : EReal => u * v) (load_tok arg3 harg3 x1 inb_S1x1x512x64_S1x1x512x64_0_0_0_0 b d)
      (load_tok arg2 harg2 x0 inb_S1x1x512x64_S1x1x512x64_0_0_0_0 a d)
  rw [hs]
  unfold sco score
  rw [EReal.coe_mul]
  simp only [mul_comm (x1 _) (x0 _)]
  ac_rfl

theorem r_apply (u : Fin 1) (a : Fin 512) :
    kernelRun.sl.r c i arg2 harg2 arg3 harg3 arg4 harg4 arg5 harg5 arg11 x0 x1 x2 x3 (ix2 u a)
      = rowMax (fun b => sco i x0 x1 x2 x3 a b * (((Real.log 2)⁻¹ : ℝ) : EReal)) := by
  unfold kernelRun.sl.r
  rw [pay3_apply]; simp only [v23_apply]

theorem r1_apply (b a : Fin 512) :
    kernelRun.sl.r_1 c i arg2 harg2 arg3 harg3 arg4 harg4 arg5 harg5 arg11 x0 x1 x2 x3 (ix2 b a)
      = Ideal.exp (sco i x0 x1 x2 x3 a b - rowMax (sco i x0 x1 x2 x3 a)) := by
  unfold kernelRun.sl.r_1
  rw [pay4_apply]; simp only [v23_apply]
  exact exp2_sub (sco i x0 x1 x2 x3 a) b

/-- The row of log-sum-exps. -/
theorem lse_apply (u v : Fin 1) (a : Fin 512) :
    k0_pay8 (kernelRun.sl.r c i arg2 harg2 arg3 harg3 arg4 harg4 arg5 harg5 arg11 x0 x1 x2 x3)
      (kernelRun.sl.r_1 c i arg2 harg2 arg3 harg3 arg4 harg4 arg5 harg5 arg11 x0 x1 x2 x3) (ix3 u v a)
      = lse (sco i x0 x1 x2 x3 a) - logSeq := by
  rw [pay8_apply, r_apply]; simp only [r1_apply]
  rw [rowMax_back]; rfl

theorem pay9_run (u : Fin 1) (a : Fin 512) :
    k0_pay9 (kernelRun.sl.r c i arg2 harg2 arg3 harg3 arg4 harg4 arg5 harg5 arg11 x0 x1 x2 x3)
      (kernelRun.sl.r_1 c i arg2 harg2 arg3 harg3 arg4 harg4 arg5 harg5 arg11 x0 x1 x2 x3) (ix2 u a)
      = min (Ideal.exp (rowMax (sco i x0 x1 x2 x3 a) - lse (sco i x0 x1 x2 x3 a))) ⊤ := by
  rw [pay9_apply, r_apply]; simp only [r1_apply]
  rw [rowMax_back]; rfl

theorem chunkAt_apply (o : ℕ) (ho : o + 32 ≤ 512) (b : Fin 32) (a : Fin 512) :
    chunkAt c i arg2 harg2 arg3 harg3 arg4 harg4 arg5 harg5 arg11 x0 x1 x2 x3 o ho (ix2 b a)
      = ((pr (sco i x0 x1 x2 x3 a) ⟨o + b.val, by omega⟩ : ℝ) : EReal) := by
  unfold chunkAt
  rw [pay10_apply, pay9_run, View.readCov_eq_canon']
  have hz : (Rect.unit (s := S512x512) ![o, 0] S32x512.size (inb_rows ho)).toLoadRect.idx (ix2 b a)
      = (Rect.unit (s := S512x512) ![0, 0] S512x512.size inb_S512x512_S512x512_0_0).emb (ix2 (⟨o + b.val, by omega⟩ : Fin 512) a) := by
    funext k; fin_cases k
    · exact Fin.ext (by show o + 1 * b.val = 0 + 1 * (o + b.val); omega)
    · exact Fin.ext (by show 0 + 1 * a.val = 0 + 1 * a.val; omega)
  show View.canon _ ((Rect.unit (s := S512x512) ![o, 0] S32x512.size (inb_rows ho)).toLoadRect.idx (ix2 b a)) * _ = _
  rw [hz]
  unfold kernelRun.sl.HS0_2
  rw [View.canon_cons_emb, pay5_apply]
  simp only [v23_apply]
  rw [exp2_sub (sco i x0 x1 x2 x3 a) _, prob_eq (by norm_num), pr_coe]

/-- A slot of the scratch. -/
theorem slotv_apply (s : Fin 18) (u : Fin 1) (b a : Fin 512) :
    slotv c i arg2 harg2 arg3 harg3 arg4 harg4 arg5 harg5 arg11 arg12 x0 x1 x2 x3 s (ix3 u b a)
      = ((slot s.val (pr (sco i x0 x1 x2 x3 a) b) : ℝ) : EReal) := by
  unfold slotv
  rw [View.readCov_eq_canon', scratch_eq]
  have hz : (Rect.unit (s := S18x512x512) ![s.val, 0, 0] S1x512x512.size (inb_load s)).toLoadRect.idx (ix3 u b a) = (ix3 s b a : S18x512x512.Idx) := by
    funext k; fin_cases k
    · exact Fin.ext (by show s.val + 1 * u.val = s.val; omega)
    · exact Fin.ext (by show 0 + 1 * b.val = b.val; omega)
    · exact Fin.ext (by show 0 + 1 * a.val = a.val; omega)
  show View.canon _ ((Rect.unit (s := S18x512x512) ![s.val, 0, 0] S1x512x512.size (inb_load s)).toLoadRect.idx (ix3 u b a)) = _
  rw [hz]
  have hp : ∀ (o : ℕ) (ho : o + 32 ≤ 512), ∀ p ∈ piecesAt c i arg2 harg2 arg3 harg3 arg4 harg4 arg5 harg5 arg11 x0 x1 x2 x3 o ho,
      ∀ z, p.2 z = (fun y : S18x512x512.Idx => ((slot (y 0).val (pr (sco i x0 x1 x2 x3 (y 2)) (y 1)) : ℝ) : EReal)) (p.1.emb z) :=
    fun o ho => pieces_apply _ o ho (fun b a => pr (sco i x0 x1 x2 x3 a) b) (chunkAt_apply c i arg2 harg2 arg3 harg3 arg4 harg4 arg5 harg5 arg11 x0 x1 x2 x3 o ho)
  have hc : ∀ (o : ℕ) (ho : o + 32 ≤ 512), o ≤ b.val → b.val < o + 32 →
      ∃ p ∈ piecesAt c i arg2 harg2 arg3 harg3 arg4 harg4 arg5 harg5 arg11 x0 x1 x2 x3 o ho, (ix3 s b a : S18x512x512.Idx) ∈ p.1.set := by
    intro o ho h1 h2
    have hm : ∀ t : ℕ, (ht : t < 18) → t = s.val → (ix3 s b a : S18x512x512.Idx) ∈ (Rect.unit (s := S18x512x512) ![t, o, 0] S1x32x512.size (inb_slot ht ho)).set := by
      rintro t ht rfl
      rw [Rect.mem_set_unit]
      intro k; fin_cases k
      · exact ⟨le_rfl, Nat.lt_succ_self _⟩
      · exact ⟨h1, h2⟩
      · exact ⟨Nat.zero_le _, (by show a.val < 0 + 512; omega)⟩
    obtain ⟨s, hs⟩ := s
    interval_cases s
    · exact ⟨(piecesAt c i arg2 harg2 arg3 harg3 arg4 harg4 arg5 harg5 arg11 x0 x1 x2 x3 o ho)[17]'(by show _ < 18; omega), List.getElem_mem _, hm 0 (by decide) rfl⟩
    · exact ⟨(piecesAt c i arg2 harg2 arg3 harg3 arg4 harg4 arg5 harg5 arg11 x0 x1 x2 x3 o ho)[16]'(by show _ < 18; omega), List.getElem_mem _, hm 1 (by decide) rfl⟩
    · exact ⟨(piecesAt c i arg2 harg2 arg3 harg3 arg4 harg4 arg5 harg5 arg11 x0 x1 x2 x3 o ho)[15]'(by show _ < 18; omega), List.getElem_mem _, hm 2 (by decide) rfl⟩
    · exact ⟨(piecesAt c i arg2 harg2 arg3 harg3 arg4 harg4 arg5 harg5 arg11 x0 x1 x2 x3 o ho)[11]'(by show _ < 18; omega), List.getElem_mem _, hm 3 (by decide) rfl⟩
    · exact ⟨(piecesAt c i arg2 harg2 arg3 harg3 arg4 harg4 arg5 harg5 arg11 x0 x1 x2 x3 o ho)[7]'(by show _ < 18; omega), List.getElem_mem _, hm 4 (by decide) rfl⟩
    · exact ⟨(piecesAt c i arg2 harg2 arg3 harg3 arg4 harg4 arg5 harg5 arg11 x0 x1 x2 x3 o ho)[3]'(by show _ < 18; omega), List.getElem_mem _, hm 5 (by decide) rfl⟩
    · exact ⟨(piecesAt c i arg2 harg2 arg3 harg3 arg4 harg4 arg5 harg5 arg11 x0 x1 x2 x3 o ho)[10]'(by show _ < 18; omega), List.getElem_mem _, hm 6 (by decide) rfl⟩
    · exact ⟨(piecesAt c i arg2 harg2 arg3 harg3 arg4 harg4 arg5 harg5 arg11 x0 x1 x2 x3 o ho)[6]'(by show _ < 18; omega), List.getElem_mem _, hm 7 (by decide) rfl⟩
    · exact ⟨(piecesAt c i arg2 harg2 arg3 harg3 arg4 harg4 arg5 harg5 arg11 x0 x1 x2 x3 o ho)[2]'(by show _ < 18; omega), List.getElem_mem _, hm 8 (by decide) rfl⟩
    · exact ⟨(piecesAt c i arg2 harg2 arg3 harg3 arg4 harg4 arg5 harg5 arg11 x0 x1 x2 x3 o ho)[14]'(by show _ < 18; omega), List.getElem_mem _, hm 9 (by decide) rfl⟩
    · exact ⟨(piecesAt c i arg2 harg2 arg3 harg3 arg4 harg4 arg5 harg5 arg11 x0 x1 x2 x3 o ho)[9]'(by show _ < 18; omega), List.getElem_mem _, hm 10 (by decide) rfl⟩
    · exact ⟨(piecesAt c i arg2 harg2 arg3 harg3 arg4 harg4 arg5 harg5 arg11 x0 x1 x2 x3 o ho)[5]'(by show _ < 18; omega), List.getElem_mem _, hm 11 (by decide) rfl⟩
    · exact ⟨(piecesAt c i arg2 harg2 arg3 harg3 arg4 harg4 arg5 harg5 arg11 x0 x1 x2 x3 o ho)[1]'(by show _ < 18; omega), List.getElem_mem _, hm 12 (by decide) rfl⟩
    · exact ⟨(piecesAt c i arg2 harg2 arg3 harg3 arg4 harg4 arg5 harg5 arg11 x0 x1 x2 x3 o ho)[13]'(by show _ < 18; omega), List.getElem_mem _, hm 13 (by decide) rfl⟩
    · exact ⟨(piecesAt c i arg2 harg2 arg3 harg3 arg4 harg4 arg5 harg5 arg11 x0 x1 x2 x3 o ho)[8]'(by show _ < 18; omega), List.getElem_mem _, hm 14 (by decide) rfl⟩
    · exact ⟨(piecesAt c i arg2 harg2 arg3 harg3 arg4 harg4 arg5 harg5 arg11 x0 x1 x2 x3 o ho)[4]'(by show _ < 18; omega), List.getElem_mem _, hm 15 (by decide) rfl⟩
    · exact ⟨(piecesAt c i arg2 harg2 arg3 harg3 arg4 harg4 arg5 harg5 arg11 x0 x1 x2 x3 o ho)[0]'(by show _ < 18; omega), List.getElem_mem _, hm 16 (by decide) rfl⟩
    · exact ⟨(piecesAt c i arg2 harg2 arg3 harg3 arg4 harg4 arg5 harg5 arg11 x0 x1 x2 x3 o ho)[12]'(by show _ < 18; omega), List.getElem_mem _, hm 17 (by decide) rfl⟩
  refine View.canon_apply_of_pieces (Val := Elt Ideal) (e := .bf16) (fun y : S18x512x512.Idx => ((slot (y 0).val (pr (sco i x0 x1 x2 x3 (y 2)) (y 1)) : ℝ) : EReal)) _ ?_ _ ?_
  · intro p hpm
    simp only [List.mem_append] at hpm
    rcases hpm with (h | h | h | h | h | h | h | h | h | h | h | h | h | h | h | h)
    all_goals exact hp _ _ p h
  · have hb := b.isLt
    obtain (h | h | h | h | h | h | h | h | h | h | h | h | h | h | h | h) : (480 ≤ b.val ∧ b.val < 480 + 32) ∨ (448 ≤ b.val ∧ b.val < 448 + 32) ∨ (416 ≤ b.val ∧ b.val < 416 + 32) ∨ (384 ≤ b.val ∧ b.val < 384 + 32) ∨ (352 ≤ b.val ∧ b.val < 352 + 32) ∨ (320 ≤ b.val ∧ b.val < 320 + 32) ∨ (288 ≤ b.val ∧ b.val < 288 + 32) ∨ (256 ≤ b.val ∧ b.val < 256 + 32) ∨ (224 ≤ b.val ∧ b.val < 224 + 32) ∨ (192 ≤ b.val ∧ b.val < 192 + 32) ∨ (160 ≤ b.val ∧ b.val < 160 + 32) ∨ (128 ≤ b.val ∧ b.val < 128 + 32) ∨ (96 ≤ b.val ∧ b.val < 96 + 32) ∨ (64 ≤ b.val ∧ b.val < 64 + 32) ∨ (32 ≤ b.val ∧ b.val < 32 + 32) ∨ (0 ≤ b.val ∧ b.val < 0 + 32) := by omega
    · obtain ⟨p, hp1, hp2⟩ := hc 480 (by decide) h.1 h.2
      exact ⟨p, (List.mem_append_left _ hp1), hp2⟩
    · obtain ⟨p, hp1, hp2⟩ := hc 448 (by decide) h.1 h.2
      exact ⟨p, (List.mem_append_right _ (List.mem_append_left _ hp1)), hp2⟩
    · obtain ⟨p, hp1, hp2⟩ := hc 416 (by decide) h.1 h.2
      exact ⟨p, (List.mem_append_right _ (List.mem_append_right _ (List.mem_append_left _ hp1))), hp2⟩
    · obtain ⟨p, hp1, hp2⟩ := hc 384 (by decide) h.1 h.2
      exact ⟨p, (List.mem_append_right _ (List.mem_append_right _ (List.mem_append_right _ (List.mem_append_left _ hp1)))), hp2⟩
    · obtain ⟨p, hp1, hp2⟩ := hc 352 (by decide) h.1 h.2
      exact ⟨p, (List.mem_append_right _ (List.mem_append_right _ (List.mem_append_right _ (List.mem_append_right _ (List.mem_append_left _ hp1))))), hp2⟩
    · obtain ⟨p, hp1, hp2⟩ := hc 320 (by decide) h.1 h.2
      exact ⟨p, (List.mem_append_right _ (List.mem_append_right _ (List.mem_append_right _ (List.mem_append_right _ (List.mem_append_right _ (List.mem_append_left _ hp1)))))), hp2⟩
    · obtain ⟨p, hp1, hp2⟩ := hc 288 (by decide) h.1 h.2
      exact ⟨p, (List.mem_append_right _ (List.mem_append_right _ (List.mem_append_right _ (List.mem_append_right _ (List.mem_append_right _ (List.mem_append_right _ (List.mem_append_left _ hp1))))))), hp2⟩
    · obtain ⟨p, hp1, hp2⟩ := hc 256 (by decide) h.1 h.2
      exact ⟨p, (List.mem_append_right _ (List.mem_append_right _ (List.mem_append_right _ (List.mem_append_right _ (List.mem_append_right _ (List.mem_append_right _ (List.mem_append_right _ (List.mem_append_left _ hp1)))))))), hp2⟩
    · obtain ⟨p, hp1, hp2⟩ := hc 224 (by decide) h.1 h.2
      exact ⟨p, (List.mem_append_right _ (List.mem_append_right _ (List.mem_append_right _ (List.mem_append_right _ (List.mem_append_right _ (List.mem_append_right _ (List.mem_append_right _ (List.mem_append_right _ (List.mem_append_left _ hp1))))))))), hp2⟩
    · obtain ⟨p, hp1, hp2⟩ := hc 192 (by decide) h.1 h.2
      exact ⟨p, (List.mem_append_right _ (List.mem_append_right _ (List.mem_append_right _ (List.mem_append_right _ (List.mem_append_right _ (List.mem_append_right _ (List.mem_append_right _ (List.mem_append_right _ (List.mem_append_right _ (List.mem_append_left _ hp1)))))))))), hp2⟩
    · obtain ⟨p, hp1, hp2⟩ := hc 160 (by decide) h.1 h.2
      exact ⟨p, (List.mem_append_right _ (List.mem_append_right _ (List.mem_append_right _ (List.mem_append_right _ (List.mem_append_right _ (List.mem_append_right _ (List.mem_append_right _ (List.mem_append_right _ (List.mem_append_right _ (List.mem_append_right _ (List.mem_append_left _ hp1))))))))))), hp2⟩
    · obtain ⟨p, hp1, hp2⟩ := hc 128 (by decide) h.1 h.2
      exact ⟨p, (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hp1)))))))))))), hp2⟩
    · obtain ⟨p, hp1, hp2⟩ := hc 96 (by decide) h.1 h.2
      exact ⟨p, (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hp1))))))))))))), hp2⟩
    · obtain ⟨p, hp1, hp2⟩ := hc 64 (by decide) h.1 h.2
      exact ⟨p, (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hp1)))))))))))))), hp2⟩
    · obtain ⟨p, hp1, hp2⟩ := hc 32 (by decide) h.1 h.2
      exact ⟨p, (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hp1))))))))))))))), hp2⟩
    · obtain ⟨p, hp1, hp2⟩ := hc 0 (by decide) h.1 h.2
      exact ⟨p, (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ hp1))))))))))))))), hp2⟩

/-- The block of losses. -/
theorem rowsv_apply (a : Fin 512) (m : Fin 16) :
    rowsv c i arg2 harg2 arg3 harg3 arg4 harg4 arg5 harg5 arg6 harg6 arg7 harg7 arg11 arg12 x0 x1 x2 x3 x4 x5 (ix2 a m)
      = rowLoss (sco i x0 x1 x2 x3 a) (fun b d => x4 (ix4 0 0 d b)) (fun d => x5 (ix4 0 0 d a)) (m.val + 1) := by
  unfold rowsv
  rw [rowsT_apply _ _ _ (fun d a s => ∑ j : Fin 512, x4 (ix4 0 0 d j) * ((slot s (pr (sco i x0 x1 x2 x3 a) j) : ℝ) : EReal))
    (fun d a s => by
      rw [outv_apply]
      refine Finset.sum_congr rfl fun j _ => ?_
      rw [slotv_apply]
      unfold kernelRun.sl.r_48
      rw [pay481_apply, load_chan])]
  unfold rowLoss
  refine Finset.sum_congr rfl fun d _ => ?_
  rw [err_sq (m.val + 1) (by omega) (by omega) _ (pr_nonneg _)]
  unfold kernelRun.sl.r_49
  rw [pay482_apply, load_chan]
  rfl

end

end Cert.KernelIdeal.Hand
-- ==== Proof.Outs.lean ====
/- What a run of the body leaves in the three results, element by element. -/
module

public import proofs.«01_k».proof.Proof.KVal

@[expose] public section

set_option maxRecDepth 65536

noncomputable section

namespace Cert.KernelIdeal.Hand

open Cert.KernelIdeal Cert.KernelIdeal.Gen Cert.Math
open Idealize.ShloMosaic Idealize.ShloMosaic.TcCoe

theorem colsum_apply (x : FVec Ideal S512x16 .f32) (u : Fin 1) (k : Fin 16) :
    shapeCast S1x16 (multiReduction .add [0] S16 x 0x00000000#32 reduces_S512x16_S16 (.inl rfl) rfl) shapeCasts_S16_S1x16 (ix2 u k)
      = ∑ a : Fin 512, x (ix2 a k) := by pointwise

theorem rows_cast (x : FVec Ideal S512x16 .f32) (u v : Fin 1) (a : Fin 512) (k : Fin 16) :
    shapeCast S1x1x512x16 x shapeCasts_S512x16_S1x1x512x16 (ix4 u v a k) = x (ix2 a k) := by pointwise

theorem pay1_apply (x y : Vec Ideal S1x16 .f32) (u : Fin 1) (k : Fin 16) :
    k0_pay1 x y (ix2 u k) = y (ix2 u k) + x (ix2 u k) := by pointwise [k0_pay1]

/-- One row of the loss array written. -/
theorem row6 (m : Memref sig .tc .vmem S32x16 .f32) (f : m.view.ty.Contents (Elt Ideal)) (off : Fin 2 → ℕ) (r : Fin 32) (hoff : off = ![r.val, 0])
    (inb : ∀ a, off a + (![1, 16] : Fin 2 → ℕ) a ≤ S32x16.size a) (w : S1x16.Idx → EReal) (h : Fin 32) (k : Fin 16) :
    m.view.read (Elt Ideal) (m.view.writes (Elt Ideal) f [⟨Rect.unit (s := S32x16) off ![1, 16] inb, w⟩]) (ix2 h k)
      = if h.val = r.val then w (ix2 0 k) else m.view.read (Elt Ideal) f (ix2 h k) := by
  subst hoff
  split_ifs with hr
  · obtain rfl : h = r := Fin.ext hr
    refine View.read_writes_cons_hit_of_coords m.view f (Rect.unit (s := S32x16) ![h.val, 0] ![1, 16] inb) w [] (ix2 0 k) _ fun a => ?_
    fin_cases a
    · show h.val = h.val + 1 * 0; omega
    · show k.val = 0 + 1 * k.val; omega
  · refine (View.read_writes_cons_miss_of_axis m.view f ⟨Rect.unit (s := S32x16) ![r.val, 0] ![1, 16] inb, w⟩ [] _ 0 r.val 1 rfl rfl rfl ?_).trans rfl
    show h.val < r.val ∨ r.val + 1 ≤ h.val
    omega

/-- One row of the array of log-sum-exps written. -/
theorem row8 (m : Memref sig .tc .vmem S1x32x512 .f32) (f : m.view.ty.Contents (Elt Ideal)) (off : Fin 3 → ℕ) (r : Fin 32) (hoff : off = ![0, r.val, 0])
    (inb : ∀ a, off a + S1x1x512.size a ≤ S1x32x512.size a) (w : S1x1x512.Idx → EReal) (h : Fin 32) (k : Fin 512) :
    m.view.read (Elt Ideal) (m.view.writes (Elt Ideal) f [⟨Rect.unit (s := S1x32x512) off S1x1x512.size inb, w⟩]) (ix3 0 h k)
      = if h.val = r.val then w (ix3 0 0 k) else m.view.read (Elt Ideal) f (ix3 0 h k) := by
  subst hoff
  split_ifs with hr
  · obtain rfl : h = r := Fin.ext hr
    refine View.read_writes_cons_hit_of_coords m.view f (Rect.unit (s := S1x32x512) ![0, h.val, 0] S1x1x512.size inb) w [] (ix3 0 0 k) _ fun a => ?_
    fin_cases a
    · rfl
    · show h.val = h.val + 1 * 0; omega
    · show k.val = 0 + 1 * k.val; omega
  · refine (View.read_writes_cons_miss_of_axis m.view f ⟨Rect.unit (s := S1x32x512) ![0, r.val, 0] S1x1x512.size inb, w⟩ [] _ 1 r.val 1 rfl rfl rfl ?_).trans rfl
    show h.val < r.val ∨ r.val + 1 ≤ h.val
    omega

section
variable (c : Dev nD) (i : grid0.Coords)
  (arg2 : Memref sig .tc .vmem S1x1x512x64 .fp8e4m3) (harg2 : arg2.IsWhole)
  (arg3 : Memref sig .tc .vmem S1x1x512x64 .fp8e4m3) (harg3 : arg3.IsWhole)
  (arg4 : Memref sig .tc .vmem S1x32x512 .f32) (harg4 : arg4.IsWhole)
  (arg5 : Memref sig .tc .vmem S1x32x512 .f32) (harg5 : arg5.IsWhole)
  (arg6 : Memref sig .tc .vmem S1x1x64x512 .bf16) (harg6 : arg6.IsWhole)
  (arg7 : Memref sig .tc .vmem S1x1x64x512 .bf16) (harg7 : arg7.IsWhole)
  (arg8 : Memref sig .tc .vmem S32x16 .f32) (harg8 : arg8.IsWhole)
  (arg9 : Memref sig .tc .vmem S1x1x512x16 .f32) (harg9 : arg9.IsWhole)
  (arg10 : Memref sig .tc .vmem S1x32x512 .f32) (harg10 : arg10.IsWhole)
  (arg11 : Memref sig .tc .vmem S512x512 .f32) (harg11 : arg11.IsWhole) (arg12 : Memref sig .tc .vmem S18x512x512 .bf16) (harg12 : arg12.IsWhole)
  (x0 : Vec Ideal S1x1x512x64 .fp8e4m3) (x1 : Vec Ideal S1x1x512x64 .fp8e4m3) (x2 : Vec Ideal S1x32x512 .f32) (x3 : Vec Ideal S1x32x512 .f32)
  (x4 : Vec Ideal S1x1x64x512 .bf16) (x5 : Vec Ideal S1x1x64x512 .bf16) (y6 : Vec Ideal S32x16 .f32) (y8 : Vec Ideal S1x32x512 .f32)

/-- The loss of the block under a candidate. -/
def partv (k : Fin 16) : EReal := ∑ a : Fin 512, rowLoss (sco i x0 x1 x2 x3 a) (fun b d => x4 (ix4 0 0 d b)) (fun d => x5 (ix4 0 0 d a)) (k.val + 1)

theorem r66_apply (u : Fin 1) (k : Fin 16) :
    kernelRun.sl.r_66 c i arg2 harg2 arg3 harg3 arg4 harg4 arg5 harg5 arg6 harg6 arg7 harg7 arg11 arg12 x0 x1 x2 x3 x4 x5 (ix2 u k) = partv i x0 x1 x2 x3 x4 x5 k := by
  rw [r66_eq, colsum_apply]; simp only [rowsv_apply]; rfl

/-- The first result in a first batch: row `i 1` is the block's losses. -/
theorem out6_first (h1 : k0_cond1 i = 1#1) (h2 : ¬ k0_cond2 i = 1#1) (h : Fin 32) (k : Fin 16) :
    arg8.view.read (Elt Ideal) (kernelRun c i arg2 harg2 arg3 harg3 arg4 harg4 arg5 harg5 arg6 harg6 arg7 harg7 arg8 harg8 arg9 harg9 arg10 harg10 arg11 harg11 arg12 harg12 x0 x1 x2 x3 x4 x5 y6 y8).1 (ix2 h k)
      = if h.val = (i 1).val then partv i x0 x1 x2 x3 x4 x5 k else y6 (ix2 h k) := by
  unfold kernelRun
  dsimp only
  rw [dif_neg h2, dif_pos h1, row6 arg8 _ _ (i 1) (k0_off2_eq i), r66_apply, harg8.read_unread]

/-- The first result in a later batch: row `i 1` is increased by the block's losses. -/
theorem out6_later (h1 : ¬ k0_cond1 i = 1#1) (h2 : k0_cond2 i = 1#1) (h : Fin 32) (k : Fin 16) :
    arg8.view.read (Elt Ideal) (kernelRun c i arg2 harg2 arg3 harg3 arg4 harg4 arg5 harg5 arg6 harg6 arg7 harg7 arg8 harg8 arg9 harg9 arg10 harg10 arg11 harg11 arg12 harg12 x0 x1 x2 x3 x4 x5 y6 y8).1 (ix2 h k)
      = if h.val = (i 1).val then y6 (ix2 h k) + partv i x0 x1 x2 x3 x4 x5 k else y6 (ix2 h k) := by
  unfold kernelRun
  dsimp only
  rw [dif_pos h2, dif_neg h1, row6 arg8 _ _ (i 1) (k0_off3_eq i), harg8.read_unread]
  split_ifs with hr
  · rw [pay1_apply, r66_apply]
    unfold kernelRun.sl.v3208
    rw [dif_neg h1]
    show arg8.view.read (Elt Ideal) (harg8.unread y6) _ + _ = _
    rw [harg8.read_unread]
    congr 2
    funext b; fin_cases b
    · exact Fin.ext (by show k0_off3 i 0 + 1 * 0 = h.val; rw [k0_off3_eq, hr]; rfl)
    · exact Fin.ext (by show k0_off3 i 1 + 1 * k.val = k.val; rw [k0_off3_eq]; show 0 + 1 * k.val = k.val; omega)
  · rfl

/-- The third result: row `i 1` is the block's log-sum-exps. -/
theorem out8 (h : Fin 32) (a : Fin 512) :
    arg10.view.read (Elt Ideal) (kernelRun c i arg2 harg2 arg3 harg3 arg4 harg4 arg5 harg5 arg6 harg6 arg7 harg7 arg8 harg8 arg9 harg9 arg10 harg10 arg11 harg11 arg12 harg12 x0 x1 x2 x3 x4 x5 y6 y8).2.1 (ix3 0 h a)
      = if h.val = (i 1).val then lse (sco i x0 x1 x2 x3 a) - logSeq else y8 (ix3 0 h a) := by
  unfold kernelRun
  dsimp only
  unfold kernelRun.sl.H8_1
  rw [row8 arg10 _ _ (i 1) (k0_off1_eq i), lse_apply, harg10.read_unread]

/-- The second result: the block's losses. -/
theorem out7 (f : arg9.view.ty.Contents (Elt Ideal)) (u v : Fin 1) (a : Fin 512) (k : Fin 16) :
    arg9.view.read (Elt Ideal) (arg9.view.writes (Elt Ideal) f (kernelRun c i arg2 harg2 arg3 harg3 arg4 harg4 arg5 harg5 arg6 harg6 arg7 harg7 arg8 harg8 arg9 harg9 arg10 harg10 arg11 harg11 arg12 harg12 x0 x1 x2 x3 x4 x5 y6 y8).2.2.1) (ix4 u v a k) = rowLoss (sco i x0 x1 x2 x3 a) (fun b d => x4 (ix4 0 0 d b)) (fun d => x5 (ix4 0 0 d a)) (k.val + 1) := by
  unfold kernelRun
  dsimp only
  rw [H7_eq, View.read_writes_cons_hit_of_coords arg9.view f _ _ _ (ix4 u v a k) _ (fun b => by
    fin_cases b
    · show u.val = 0 + 1 * u.val; omega
    · show v.val = 0 + 1 * v.val; omega
    · show a.val = 0 + 1 * a.val; omega
    · show k.val = 0 + 1 * k.val; omega), rows_cast, rowsv_apply]

end

end Cert.KernelIdeal.Hand
-- ==== Proof.Body.lean ====
/- The pipeline around the body: what every buffer of a result holds point by point, and the run of the whole kernel.

   Two of the three results are updated one row at a point, in a buffer that starts with contents nothing is known of.
   So no exact contents can be named for them; each is held to a predicate, which names the rows written so far. -/
module

public import proofs.«01_k».proof.Proof.Outs
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Hand

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg)

/-! ## The points -/

theorem pt_lt (t : Fin cfg0.N) : t.val < 96 := lt_of_lt_of_eq t.isLt (show cfg0.N = 96 from N_0)

theorem coord0 (t : Fin cfg0.N) : (grid0.coords t 0).val = t.val / 32 := by
  have h : (grid0.coords t 0).val = t.val / 32 % 3 := Pipeline.Grid.coords_val t 0 (by decide) rfl
  have := pt_lt t; omega

theorem coord1 (t : Fin cfg0.N) : (grid0.coords t 1).val = t.val % 32 := by
  have h : (grid0.coords t 1).val = t.val / 1 % 32 := Pipeline.Grid.coords_val t 1 (by decide) rfl
  omega

theorem cond_first (t : Fin cfg0.N) : k0_cond1 (grid0.coords t) = 1#1 ↔ t.val < 32 := by
  have ht := pt_lt t
  have e0 : (grid0.coords t 0).val = t.val / 32 % 3 := Pipeline.Grid.coords_val t 0 (by decide) rfl
  simp only [k0_cond1, e0]
  word_cmp

theorem cond_later : ∀ t : Fin cfg0.N, k0_cond2 (grid0.coords t) = 1#1 ↔ 32 ≤ t.val :=
  (by decide +kernel : ∀ t : Fin grid0.N, k0_cond2 (grid0.coords t) = 1#1 ↔ 32 ≤ t.val)

/-! ## What the results hold -/

/-- The scores of the block at point `t`. -/
def sc (c : Dev nD) (t : Fin cfg0.N) : Fin 512 → Fin 512 → EReal :=
  sco (grid0.coords t) (iblk m c 0 t) (iblk m c 1 t) (iblk m c 2 t) (iblk m c 3 t)

/-- The loss of row `a` under candidate `k` at point `t`. -/
def rl (c : Dev nD) (t : Fin cfg0.N) (a : Fin 512) (k : Fin 16) : EReal :=
  rowLoss (sc m c t a) (fun b d => iblk m c 4 t (ix4 0 0 d b)) (fun d => iblk m c 5 t (ix4 0 0 d a)) (k.val + 1)

/-- The loss of the block at point number `n`. -/
def part (c : Dev nD) (n : ℕ) (k : Fin 16) : EReal := if hn : n < cfg0.N then ∑ a : Fin 512, rl m c ⟨n, hn⟩ a k else 0

/-- The loss of head `h` over the batches up to `b`, added in the order of the batches. -/
def acc (c : Dev nD) (h : Fin 32) (k : Fin 16) : ℕ → EReal
  | 0 => part m c h.val k
  | b + 1 => acc c h k b + part m c (32 * (b + 1) + h.val) k

def Rl6 (c : Dev nD) (t : Fin cfg0.N) (X : S32x16.Idx → EReal) : Prop :=
  ∀ (h : Fin 32) (k : Fin 16) (b : ℕ), 32 * b + h.val ≤ t.val → t.val < 32 * (b + 1) + h.val → X (ix2 h k) = acc m c h k b

def Rl7 (c : Dev nD) (t : Fin cfg0.N) (X : S1x1x512x16.Idx → EReal) : Prop :=
  ∀ (a : Fin 512) (k : Fin 16), X (ix4 0 0 a k) = rl m c t a k

def Rl8 (c : Dev nD) (t : Fin cfg0.N) (X : S1x32x512.Idx → EReal) : Prop :=
  ∀ (u : Fin cfg0.N) (h : Fin 32) (a : Fin 512), u.val ≤ t.val → u.val / 32 = t.val / 32 → h.val = u.val % 32 →
    X (ix3 0 h a) = lse (sc m c u a) - logSeq

/-- The windows of the results are held to these predicates. -/
def marks : Fin cfg0.W → Bool := fun w => w.val == 6 || w.val == 7 || w.val == 8

def Rl (c : Dev nD) (w : Fin cfg0.W) (t : Fin cfg0.N) : ((cfg0.win w).block.Idx → Elt Ideal (cfg0.win w).elt) → Prop :=
  match w with
  | ⟨6, _⟩ => fun X => Rl6 m c t X
  | ⟨7, _⟩ => fun X => Rl7 m c t X
  | ⟨8, _⟩ => fun X => Rl8 m c t X
  | _ => fun _ => True

/-! ## One point -/

theorem step6 (c : Dev nD) (t : Fin cfg0.N) (X Y : S32x16.Idx → EReal)
    (hY : t.val = 0 ∨ ∃ t' : Fin cfg0.N, t'.val + 1 = t.val ∧ Rl6 m c t' Y)
    (hX : ∀ (h : Fin 32) (k : Fin 16), X (ix2 h k) = if h.val = (grid0.coords t 1).val then
      (if t.val < 32 then ∑ a : Fin 512, rl m c t a k else Y (ix2 h k) + ∑ a : Fin 512, rl m c t a k) else Y (ix2 h k)) :
    Rl6 m c t X := by
  intro h k b h1 h2
  have hN := pt_lt t
  have hh := h.isLt
  rw [hX, coord1]
  have hp : part m c t.val k = ∑ a : Fin 512, rl m c t a k := by
    unfold part; rw [dif_pos t.isLt]
  split_ifs with e1 e2
  · have hb : b = 0 := by omega
    subst hb
    have ht : t.val = h.val := by omega
    show _ = part m c h.val k
    rw [← ht, hp]
  · obtain ⟨b, rfl⟩ : ∃ b', b = b' + 1 := ⟨b - 1, by omega⟩
    have ht : t.val = 32 * (b + 1) + h.val := by omega
    obtain h0 | ⟨t', ht', hR⟩ := hY
    · omega
    rw [hR h k b (by omega) (by omega)]
    show _ = acc m c h k b + part m c (32 * (b + 1) + h.val) k
    rw [← ht, hp]
  · obtain h0 | ⟨t', ht', hR⟩ := hY
    · omega
    exact hR h k b (by omega) (by omega)

theorem step8 (c : Dev nD) (t : Fin cfg0.N) (X Y : S1x32x512.Idx → EReal)
    (hY : t.val % 32 = 0 ∨ ∃ t' : Fin cfg0.N, t'.val + 1 = t.val ∧ Rl8 m c t' Y)
    (hX : ∀ (h : Fin 32) (a : Fin 512), X (ix3 0 h a) = if h.val = (grid0.coords t 1).val then lse (sc m c t a) - logSeq else Y (ix3 0 h a)) :
    Rl8 m c t X := by
  intro u h a h1 h2 h3
  rw [hX, coord1]
  split_ifs with e1
  · have : u = t := Fin.ext (by omega)
    rw [this]
  · have hne : u.val ≠ t.val := by omega
    obtain h0 | ⟨t', ht', hR⟩ := hY
    · omega
    exact hR u h a (by omega) (by omega) h3

/-! ## The proof data -/

/-- The inputs' buffers keep their blocks; of the results' nothing exact is named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The relational data. -/
def rdat (c : Dev nD) : RDat τ (Elt Ideal) Unit ℕ (UR sig nD τ) ℕ cfg0 c := (dats m 0 c).toRRel marks (Rl m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body may find in the first result's buffer. -/
theorem finds6 (c : Dev nD) (t : Fin cfg0.N) (Y : S32x16.Idx → EReal) (h : (rdat m c).Finds 6 t Y) :
    t.val = 0 ∨ ∃ t' : Fin cfg0.N, t'.val + 1 = t.val ∧ Rl6 m c t' Y := by
  by_cases h0 : t.val = 0
  · exact .inl h0
  · right
    refine ⟨⟨t.val - 1, Nat.lt_of_le_of_lt (Nat.sub_le _ _) t.isLt⟩, by show t.val - 1 + 1 = t.val; omega, ?_⟩
    rcases ((rdat m c).finds_of_pos (w := 6) (t := t) rfl h0 Y).mp h with hf | hl
    · have := (flush0_6 _).mp hf
      have := pt_lt t
      simp only at *
      omega
    · exact (dats m 0 c).toRRel_leaves (w := 6) rfl hl

/-- What the body may find in the third result's buffer. -/
theorem finds8 (c : Dev nD) (t : Fin cfg0.N) (Y : S1x32x512.Idx → EReal) (h : (rdat m c).Finds 8 t Y) :
    t.val % 32 = 0 ∨ ∃ t' : Fin cfg0.N, t'.val + 1 = t.val ∧ Rl8 m c t' Y := by
  by_cases h0 : t.val % 32 = 0
  · exact .inl h0
  · right
    have h0' : t.val ≠ 0 := by omega
    refine ⟨⟨t.val - 1, Nat.lt_of_le_of_lt (Nat.sub_le _ _) t.isLt⟩, by show t.val - 1 + 1 = t.val; omega, ?_⟩
    rcases ((rdat m c).finds_of_pos (w := 8) (t := t) rfl h0' Y).mp h with hf | hl
    · have := (flush0_8 _).mp hf
      simp only at *
      omega
    · exact (dats m 0 c).toRRel_leaves (w := 8) rfl hl

/-! ## The body obligation -/

abbrev sM0 : Memref sig .tc .vmem S512x512 .f32 := Memref.whole cc0_scratch0
abbrev sM1 : Memref sig .tc .vmem S18x512x512 .bf16 := Memref.whole cc0_scratch1

theorem phi_eq (c : Dev nD) :
    (Pipeline.ΦA spec0 c : sProp 𝕄)
      = iprop(iprop((∃ d, owns (c : Thread nD τ) sM0 fullShare d) ∗ (∃ d, owns (c : Thread nD τ) sM1 fullShare d)) ∗ (∃ r, prngReg c r)) := by
  unfold Pipeline.ΦA; rw [scopedRest0_eq]; simp only [sM0, sM1, owns_whole]; try rfl

abbrev ms0 (t : Fin cfg0.N) : Memref sig .tc .vmem S1x1x512x64 .fp8e4m3 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x512x64 .fp8e4m3 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x64x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x64x512 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x16 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x512x16 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x32x512 .f32 := win0_8.stage (cfg0.slots t 8)
abbrev hs8 (t : Fin cfg0.N) : (ms8 t).IsWhole := hstage0_8 ((cfg0.slots t 8).cast nbuf0_8)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ Y, ⌜(rdat m c).Finds 6 t Y⌝ ∗ owns (c : Thread nD τ) (ms6 t) fullShare Y)
    ∗ (∃ Y, ⌜(rdat m c).Finds 7 t Y⌝ ∗ owns (c : Thread nD τ) (ms7 t) fullShare Y)
    ∗ (∃ Y, ⌜(rdat m c).Finds 8 t Y⌝ ∗ owns (c : Thread nD τ) (ms8 t) fullShare Y))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (∃ X, ⌜Rl6 m c t X⌝ ∗ owns (c : Thread nD τ) (ms6 t) fullShare X)
    ∗ (∃ X, ⌜Rl7 m c t X⌝ ∗ owns (c : Thread nD τ) (ms7 t) fullShare X)
    ∗ (∃ X, ⌜Rl8 m c t X⌝ ∗ owns (c : Thread nD τ) (ms8 t) fullShare X))

/-- The run of the body at point `t`, on buffers of the results that hold `y6` and `y8`. -/
abbrev runAt (c : Dev nD) (t : Fin cfg0.N) (y6 : S32x16.Idx → EReal) (y8 : S1x32x512.Idx → EReal) :=
  kernelRun (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sM0 (Memref.isWhole_whole _) sM1 (Memref.isWhole_whole _)
    (iblk m c 0 t) (iblk m c 1 t) (iblk m c 2 t) (iblk m c 3 t) (iblk m c 4 t) (iblk m c 5 t) y6 y8

theorem left6 (c : Dev nD) (t : Fin cfg0.N) (y6 y8) (hY : (rdat m c).Finds 6 t y6) :
    Rl6 m c t ((ms6 t).view.read (Elt Ideal) (runAt m c t y6 y8).1) := by
  refine step6 m c t _ y6 (finds6 m c t y6 hY) fun h k => ?_
  by_cases ht : t.val < 32
  · rw [if_pos ht]
    exact out6_first _ _ _ _ _ _ _ _ _ _ _ _ _ _ _ _ _ _ _ _ _ _ _ _ _ _ _ _ _ _ _ _ ((cond_first t).mpr ht) (fun hc => absurd ((cond_later t).mp hc) (by omega)) h k
  · rw [if_neg ht]
    exact out6_later _ _ _ _ _ _ _ _ _ _ _ _ _ _ _ _ _ _ _ _ _ _ _ _ _ _ _ _ _ _ _ _ (fun hc => ht ((cond_first t).mp hc)) ((cond_later t).mpr (by omega)) h k

theorem left7 (c : Dev nD) (t : Fin cfg0.N) (y6 y8 f) :
    Rl7 m c t ((ms7 t).view.read (Elt Ideal) ((ms7 t).view.writes (Elt Ideal) f (runAt m c t y6 y8).2.2.1)) :=
  fun a k => out7 _ _ _ _ _ _ _ _ _ _ _ _ _ _ _ _ _ _ _ _ _ _ _ _ _ _ _ _ _ _ _ _ f 0 0 a k

theorem left8 (c : Dev nD) (t : Fin cfg0.N) (y6 y8) (hY : (rdat m c).Finds 8 t y8) :
    Rl8 m c t ((ms8 t).view.read (Elt Ideal) (runAt m c t y6 y8).2.1) :=
  step8 m c t _ y8 (finds8 m c t y8 hY) fun h a => out8 _ _ _ _ _ _ _ _ _ _ _ _ _ _ _ _ _ _ _ _ _ _ _ _ _ _ _ _ _ _ _ _ h a

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, phi_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%y6, %hy6, H6⟩, ⟨%y7, -, H7⟩, ⟨%y8, %hy8, H8⟩⟩
  iapply ((runAt m c t y6 y8).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS0]; · iexact HS0
  isplitl [HS1]; · iexact HS1
  iintro ⟨H0, H1, H2, H3, H4, H5, H6, ⟨%f7, H7⟩, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; · ipureintro; exact left6 m c t y6 y8 hy6
    unfold owns; iexists _; isplitr; · ipureintro; rfl
    iexact H6
  isplitl [H7]
  · iexists _; isplitr; · ipureintro; exact left7 m c t y6 y8 f7
    unfold owns; iexists _; isplitr; · ipureintro; rfl
    iexact H7
  iexists _; isplitr; · ipureintro; exact left8 m c t y6 y8 hy8
  unfold owns; iexists _; isplitr; · ipureintro; rfl
  iexact H8

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationRel (dats m 0 c) (defs₀ (F := Ideal)) Variants.none () Set.univ marks (Rl m c) := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := Ideal))) (s₀ m ρ)
    (fun r => (RDat.FramePost (cfgs 0) (rdat m) (V m)) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem unchanged_of (r : PUnit × MemSt nD τ sig (Elt Ideal)) (h : RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame of the kernel on the extended reals. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨unchanged_of m r h.1, h.2⟩) (run_main_quiescent m ρ)

end Cert.KernelIdeal.Hand

end
-- ==== Proof.KFinal.lean ====
/- What the kernel leaves in its three result arrays, in terms of its six argument arrays: the windows' blocks are read
   off the transposed arguments, and each result array is read off the block that the last point of it wrote back. -/
module

public import proofs.«01_k».proof.Proof.Body
public import Idealize.ShloMosaic.Lib.Pipeline.ArrRel
public import Idealize.ShloMosaic.Lib.Pipeline.Value
public import Idealize.ShloMosaic.Lib.StableHlo.RunRead

@[expose] public section

noncomputable section

namespace Cert.KernelIdeal.Hand

open Cert.KernelIdeal Cert.KernelIdeal.Gen Cert.Math
open Idealize.ShloMosaic Idealize.ShloMosaic.TcCoe Idealize.ShloMosaic.Tactic
open Idealize.SL.Sem
open Idealize.ShloMosaic.Pipeline (Dat RDat Cfg Window)

variable (m : (ℓ : Loc nD τ sig) → Buf (Elt Ideal) ℓ) (ρ : Dev nD → PrngReg)

/-! ## The arguments, entry by entry -/

def qA (c : Dev nD) : Fin 3 → Fin 512 → Fin 32 → Fin 64 → EReal := fun b a h d => (m ((c.tc : Thread nD τ).loc main_arg0) : S3x512x32x64.Idx → EReal) (ix4 b a h d)
def qsA (c : Dev nD) : Fin 3 → Fin 512 → Fin 32 → EReal := fun b a h => (m ((c.tc : Thread nD τ).loc main_arg1) : S3x512x32.Idx → EReal) (ix3 b a h)
def kA (c : Dev nD) : Fin 3 → Fin 512 → Fin 32 → Fin 64 → EReal := fun b a h d => (m ((c.tc : Thread nD τ).loc main_arg2) : S3x512x32x64.Idx → EReal) (ix4 b a h d)
def ksA (c : Dev nD) : Fin 3 → Fin 512 → Fin 32 → EReal := fun b a h => (m ((c.tc : Thread nD τ).loc main_arg3) : S3x512x32.Idx → EReal) (ix3 b a h)
def vA (c : Dev nD) : Fin 3 → Fin 512 → Fin 32 → Fin 64 → EReal := fun b a h d => (m ((c.tc : Thread nD τ).loc main_arg4) : S3x512x32x64.Idx → EReal) (ix4 b a h d)
def gA (c : Dev nD) : Fin 3 → Fin 512 → Fin 32 → Fin 64 → EReal := fun b a h d => (m ((c.tc : Thread nD τ).loc main_arg5) : S3x512x32x64.Idx → EReal) (ix4 b a h d)

/-! ## The transposes before the kernel -/

theorem v0_apply (c : Dev nD) (b : Fin 3) (h : Fin 32) (a : Fin 512) (d : Fin 64) :
    (V m c main_v0 : S3x32x512x64.Idx → EReal) (ix4 b h a d) = qA m c b a h d := by
  after_reads_simp
  exact transpose_apply _ _ _ _ (ix4 b a h d) (fun e => by fin_cases e <;> rfl)

theorem v1_apply (c : Dev nD) (b : Fin 3) (h : Fin 32) (a : Fin 512) (d : Fin 64) :
    (V m c main_v1 : S3x32x512x64.Idx → EReal) (ix4 b h a d) = kA m c b a h d := by
  after_reads_simp
  exact transpose_apply _ _ _ _ (ix4 b a h d) (fun e => by fin_cases e <;> rfl)

theorem v2_apply (c : Dev nD) (b : Fin 3) (h : Fin 32) (a : Fin 512) :
    (V m c main_v2 : S3x32x512.Idx → EReal) (ix3 b h a) = qsA m c b a h := by
  after_reads_simp
  exact transpose_apply _ _ _ _ (ix3 b a h) (fun e => by fin_cases e <;> rfl)

theorem v3_apply (c : Dev nD) (b : Fin 3) (h : Fin 32) (a : Fin 512) :
    (V m c main_v3 : S3x32x512.Idx → EReal) (ix3 b h a) = ksA m c b a h := by
  after_reads_simp
  exact transpose_apply _ _ _ _ (ix3 b a h) (fun e => by fin_cases e <;> rfl)

theorem v4_apply (c : Dev nD) (b : Fin 3) (h : Fin 32) (d : Fin 64) (a : Fin 512) :
    (V m c main_v4 : S3x32x64x512.Idx → EReal) (ix4 b h d a) = vA m c b a h d := by
  after_reads_simp
  exact transpose_apply _ _ _ _ (ix4 b a h d) (fun e => by fin_cases e <;> rfl)

theorem v5_apply (c : Dev nD) (b : Fin 3) (h : Fin 32) (d : Fin 64) (a : Fin 512) :
    (V m c main_v5 : S3x32x64x512.Idx → EReal) (ix4 b h d a) = gA m c b a h d := by
  after_reads_simp
  exact transpose_apply _ _ _ _ (ix4 b a h d) (fun e => by fin_cases e <;> rfl)

/-! ## The blocks of the argument windows -/

/-- The batch of a point. -/
def bOf (t : Fin cfg0.N) : Fin 3 := ⟨t.val / 32, by have := pt_lt t; omega⟩
/-- The head of a point. -/
def hOf (t : Fin cfg0.N) : Fin 32 := ⟨t.val % 32, by omega⟩

theorem index0 : ∀ t : Fin cfg0.N, win0_0.index t (0 : Fin 4) = t.val / 32 ∧ win0_0.index t (1 : Fin 4) = t.val % 32 ∧ win0_0.index t (2 : Fin 4) = 0 ∧ win0_0.index t (3 : Fin 4) = 0 :=
  (by decide +kernel : ∀ t : Fin grid0.N, _)
theorem index1 : ∀ t : Fin cfg0.N, win0_1.index t (0 : Fin 4) = t.val / 32 ∧ win0_1.index t (1 : Fin 4) = t.val % 32 ∧ win0_1.index t (2 : Fin 4) = 0 ∧ win0_1.index t (3 : Fin 4) = 0 :=
  (by decide +kernel : ∀ t : Fin grid0.N, _)
theorem index2 : ∀ t : Fin cfg0.N, win0_2.index t (0 : Fin 3) = t.val / 32 ∧ win0_2.index t (1 : Fin 3) = 0 ∧ win0_2.index t (2 : Fin 3) = 0 :=
  (by decide +kernel : ∀ t : Fin grid0.N, _)
theorem index3 : ∀ t : Fin cfg0.N, win0_3.index t (0 : Fin 3) = t.val / 32 ∧ win0_3.index t (1 : Fin 3) = 0 ∧ win0_3.index t (2 : Fin 3) = 0 :=
  (by decide +kernel : ∀ t : Fin grid0.N, _)
theorem index4 : ∀ t : Fin cfg0.N, win0_4.index t (0 : Fin 4) = t.val / 32 ∧ win0_4.index t (1 : Fin 4) = t.val % 32 ∧ win0_4.index t (2 : Fin 4) = 0 ∧ win0_4.index t (3 : Fin 4) = 0 :=
  (by decide +kernel : ∀ t : Fin grid0.N, _)
theorem index5 : ∀ t : Fin cfg0.N, win0_5.index t (0 : Fin 4) = t.val / 32 ∧ win0_5.index t (1 : Fin 4) = t.val % 32 ∧ win0_5.index t (2 : Fin 4) = 0 ∧ win0_5.index t (3 : Fin 4) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 4) = t.val / 32 ∧ win0_7.index t (1 : Fin 4) = t.val % 32 ∧ win0_7.index t (2 : Fin 4) = 0 ∧ win0_7.index t (3 : Fin 4) = 0 :=
  (by decide +kernel : ∀ t : Fin grid0.N, _)
theorem index8 : ∀ t : Fin cfg0.N, win0_8.index t (0 : Fin 3) = t.val / 32 ∧ win0_8.index t (1 : Fin 3) = 0 ∧ win0_8.index t (2 : Fin 3) = 0 :=
  (by decide +kernel : ∀ t : Fin grid0.N, _)

theorem emb0 (t : Fin cfg0.N) (a : Fin 512) (d : Fin 64) :
    ((cfg0.win 0).blk t).view.emb (ix4 (0 : Fin 1) (0 : Fin 1) a d : S1x1x512x64.Idx) = (ix4 (bOf t) (hOf t) a d : S3x32x512x64.Idx) := by
  obtain ⟨e0, e1, e2, e3⟩ := index0 t
  funext x; apply Fin.ext
  match x with
  | ⟨0, _⟩ => show win0_0.index t (0 : Fin 4) * 1 + 1 * 0 = t.val / 32; omega
  | ⟨1, _⟩ => show win0_0.index t (1 : Fin 4) * 1 + 1 * 0 = t.val % 32; omega
  | ⟨2, _⟩ => show win0_0.index t (2 : Fin 4) * 512 + 1 * a.val = a.val; omega
  | ⟨3, _⟩ => show win0_0.index t (3 : Fin 4) * 64 + 1 * d.val = d.val; omega

theorem emb1 (t : Fin cfg0.N) (a : Fin 512) (d : Fin 64) :
    ((cfg0.win 1).blk t).view.emb (ix4 (0 : Fin 1) (0 : Fin 1) a d : S1x1x512x64.Idx) = (ix4 (bOf t) (hOf t) a d : S3x32x512x64.Idx) := by
  obtain ⟨e0, e1, e2, e3⟩ := index1 t
  funext x; apply Fin.ext
  match x with
  | ⟨0, _⟩ => show win0_1.index t (0 : Fin 4) * 1 + 1 * 0 = t.val / 32; omega
  | ⟨1, _⟩ => show win0_1.index t (1 : Fin 4) * 1 + 1 * 0 = t.val % 32; omega
  | ⟨2, _⟩ => show win0_1.index t (2 : Fin 4) * 512 + 1 * a.val = a.val; omega
  | ⟨3, _⟩ => show win0_1.index t (3 : Fin 4) * 64 + 1 * d.val = d.val; omega

theorem emb2 (t : Fin cfg0.N) (h : Fin 32) (a : Fin 512) :
    ((cfg0.win 2).blk t).view.emb (ix3 (0 : Fin 1) h a : S1x32x512.Idx) = (ix3 (bOf t) h a : S3x32x512.Idx) := by
  obtain ⟨e0, e1, e2⟩ := index2 t
  funext x; apply Fin.ext
  match x with
  | ⟨0, _⟩ => show win0_2.index t (0 : Fin 3) * 1 + 1 * 0 = t.val / 32; omega
  | ⟨1, _⟩ => show win0_2.index t (1 : Fin 3) * 32 + 1 * h.val = h.val; omega
  | ⟨2, _⟩ => show win0_2.index t (2 : Fin 3) * 512 + 1 * a.val = a.val; omega

theorem emb3 (t : Fin cfg0.N) (h : Fin 32) (a : Fin 512) :
    ((cfg0.win 3).blk t).view.emb (ix3 (0 : Fin 1) h a : S1x32x512.Idx) = (ix3 (bOf t) h a : S3x32x512.Idx) := by
  obtain ⟨e0, e1, e2⟩ := index3 t
  funext x; apply Fin.ext
  match x with
  | ⟨0, _⟩ => show win0_3.index t (0 : Fin 3) * 1 + 1 * 0 = t.val / 32; omega
  | ⟨1, _⟩ => show win0_3.index t (1 : Fin 3) * 32 + 1 * h.val = h.val; omega
  | ⟨2, _⟩ => show win0_3.index t (2 : Fin 3) * 512 + 1 * a.val = a.val; omega

theorem emb4 (t : Fin cfg0.N) (d : Fin 64) (a : Fin 512) :
    ((cfg0.win 4).blk t).view.emb (ix4 (0 : Fin 1) (0 : Fin 1) d a : S1x1x64x512.Idx) = (ix4 (bOf t) (hOf t) d a : S3x32x64x512.Idx) := by
  obtain ⟨e0, e1, e2, e3⟩ := index4 t
  funext x; apply Fin.ext
  match x with
  | ⟨0, _⟩ => show win0_4.index t (0 : Fin 4) * 1 + 1 * 0 = t.val / 32; omega
  | ⟨1, _⟩ => show win0_4.index t (1 : Fin 4) * 1 + 1 * 0 = t.val % 32; omega
  | ⟨2, _⟩ => show win0_4.index t (2 : Fin 4) * 64 + 1 * d.val = d.val; omega
  | ⟨3, _⟩ => show win0_4.index t (3 : Fin 4) * 512 + 1 * a.val = a.val; omega

theorem emb5 (t : Fin cfg0.N) (d : Fin 64) (a : Fin 512) :
    ((cfg0.win 5).blk t).view.emb (ix4 (0 : Fin 1) (0 : Fin 1) d a : S1x1x64x512.Idx) = (ix4 (bOf t) (hOf t) d a : S3x32x64x512.Idx) := by
  obtain ⟨e0, e1, e2, e3⟩ := index5 t
  funext x; apply Fin.ext
  match x with
  | ⟨0, _⟩ => show win0_5.index t (0 : Fin 4) * 1 + 1 * 0 = t.val / 32; omega
  | ⟨1, _⟩ => show win0_5.index t (1 : Fin 4) * 1 + 1 * 0 = t.val % 32; omega
  | ⟨2, _⟩ => show win0_5.index t (2 : Fin 4) * 64 + 1 * d.val = d.val; omega
  | ⟨3, _⟩ => show win0_5.index t (3 : Fin 4) * 512 + 1 * a.val = a.val; omega

theorem emb6 (t : Fin cfg0.N) (h : Fin 32) (k : Fin 16) :
    ((cfg0.win 6).blk t).view.emb (ix2 h k : S32x16.Idx) = (ix2 h k : S32x16.Idx) := by
  obtain ⟨e0, e1⟩ := index6 t
  funext x; apply Fin.ext
  match x with
  | ⟨0, _⟩ => show win0_6.index t (0 : Fin 2) * 32 + 1 * h.val = h.val; omega
  | ⟨1, _⟩ => show win0_6.index t (1 : Fin 2) * 16 + 1 * k.val = k.val; omega

theorem emb7 (t : Fin cfg0.N) (a : Fin 512) (k : Fin 16) :
    ((cfg0.win 7).blk t).view.emb (ix4 (0 : Fin 1) (0 : Fin 1) a k : S1x1x512x16.Idx) = (ix4 (bOf t) (hOf t) a k : S3x32x512x16.Idx) := by
  obtain ⟨e0, e1, e2, e3⟩ := index7 t
  funext x; apply Fin.ext
  match x with
  | ⟨0, _⟩ => show win0_7.index t (0 : Fin 4) * 1 + 1 * 0 = t.val / 32; omega
  | ⟨1, _⟩ => show win0_7.index t (1 : Fin 4) * 1 + 1 * 0 = t.val % 32; omega
  | ⟨2, _⟩ => show win0_7.index t (2 : Fin 4) * 512 + 1 * a.val = a.val; omega
  | ⟨3, _⟩ => show win0_7.index t (3 : Fin 4) * 16 + 1 * k.val = k.val; omega

theorem emb8 (t : Fin cfg0.N) (h : Fin 32) (a : Fin 512) :
    ((cfg0.win 8).blk t).view.emb (ix3 (0 : Fin 1) h a : S1x32x512.Idx) = (ix3 (bOf t) h a : S3x32x512.Idx) := by
  obtain ⟨e0, e1, e2⟩ := index8 t
  funext x; apply Fin.ext
  match x with
  | ⟨0, _⟩ => show win0_8.index t (0 : Fin 3) * 1 + 1 * 0 = t.val / 32; omega
  | ⟨1, _⟩ => show win0_8.index t (1 : Fin 3) * 32 + 1 * h.val = h.val; omega
  | ⟨2, _⟩ => show win0_8.index t (2 : Fin 3) * 512 + 1 * a.val = a.val; omega

theorem blk0_apply (c : Dev nD) (t : Fin cfg0.N) (a : Fin 512) (d : Fin 64) :
    (iblk m c 0 t : S1x1x512x64.Idx → EReal) (ix4 0 0 a d) = qA m c (bOf t) a (hOf t) d := by
  show (V m c main_v0 : S3x32x512x64.Idx → EReal) (((cfg0.win 0).blk t).view.emb _) = _
  rw [emb0, v0_apply]
theorem blk1_apply (c : Dev nD) (t : Fin cfg0.N) (a : Fin 512) (d : Fin 64) :
    (iblk m c 1 t : S1x1x512x64.Idx → EReal) (ix4 0 0 a d) = kA m c (bOf t) a (hOf t) d := by
  show (V m c main_v1 : S3x32x512x64.Idx → EReal) (((cfg0.win 1).blk t).view.emb _) = _
  rw [emb1, v1_apply]
theorem blk2_apply (c : Dev nD) (t : Fin cfg0.N) (h : Fin 32) (a : Fin 512) :
    (iblk m c 2 t : S1x32x512.Idx → EReal) (ix3 0 h a) = qsA m c (bOf t) a h := by
  show (V m c main_v2 : S3x32x512.Idx → EReal) (((cfg0.win 2).blk t).view.emb _) = _
  rw [emb2, v2_apply]
theorem blk3_apply (c : Dev nD) (t : Fin cfg0.N) (h : Fin 32) (a : Fin 512) :
    (iblk m c 3 t : S1x32x512.Idx → EReal) (ix3 0 h a) = ksA m c (bOf t) a h := by
  show (V m c main_v3 : S3x32x512.Idx → EReal) (((cfg0.win 3).blk t).view.emb _) = _
  rw [emb3, v3_apply]
theorem blk4_apply (c : Dev nD) (t : Fin cfg0.N) (d : Fin 64) (a : Fin 512) :
    (iblk m c 4 t : S1x1x64x512.Idx → EReal) (ix4 0 0 d a) = vA m c (bOf t) a (hOf t) d := by
  show (V m c main_v4 : S3x32x64x512.Idx → EReal) (((cfg0.win 4).blk t).view.emb _) = _
  rw [emb4, v4_apply]
theorem blk5_apply (c : Dev nD) (t : Fin cfg0.N) (d : Fin 64) (a : Fin 512) :
    (iblk m c 5 t : S1x1x64x512.Idx → EReal) (ix4 0 0 d a) = gA m c (bOf t) a (hOf t) d := by
  show (V m c main_v5 : S3x32x64x512.Idx → EReal) (((cfg0.win 5).blk t).view.emb _) = _
  rw [emb5, v5_apply]

theorem sc_eq (c : Dev nD) (t : Fin cfg0.N) :
    sc m c t = headScore (qA m c) (qsA m c) (kA m c) (ksA m c) (bOf t) (hOf t) := by
  have hi : (grid0.coords t 1 : Fin 32) = hOf t := Fin.ext (coord1 t)
  funext a b
  unfold sc sco headScore
  have e0 : (fun (a : Fin 512) (d : Fin 64) => (iblk m c 0 t : S1x1x512x64.Idx → EReal) (ix4 0 0 a d)) = fun a d => qA m c (bOf t) a (hOf t) d := by
    funext a d; exact blk0_apply m c t a d
  have e1 : (fun (a : Fin 512) (d : Fin 64) => (iblk m c 1 t : S1x1x512x64.Idx → EReal) (ix4 0 0 a d)) = fun a d => kA m c (bOf t) a (hOf t) d := by
    funext a d; exact blk1_apply m c t a d
  have e2 : (fun (a : Fin 512) => (iblk m c 2 t : S1x32x512.Idx → EReal) (ix3 0 (grid0.coords t 1) a)) = fun a => qsA m c (bOf t) a (hOf t) := by
    funext a; exact (congrArg (fun h => (iblk m c 2 t : S1x32x512.Idx → EReal) (ix3 0 h a)) hi).trans (blk2_apply m c t (hOf t) a)
  have e3 : (fun (a : Fin 512) => (iblk m c 3 t : S1x32x512.Idx → EReal) (ix3 0 (grid0.coords t 1) a)) = fun a => ksA m c (bOf t) a (hOf t) := by
    funext a; exact (congrArg (fun h => (iblk m c 3 t : S1x32x512.Idx → EReal) (ix3 0 h a)) hi).trans (blk3_apply m c t (hOf t) a)
  exact congrFun (congrFun (congr (congr (congrArg₂ score e0 e1) e2) e3) a) b

theorem rl_eq (c : Dev nD) (t : Fin cfg0.N) (a : Fin 512) (k : Fin 16) :
    rl m c t a k = headRow (qA m c) (qsA m c) (kA m c) (ksA m c) (vA m c) (gA m c) (bOf t) (hOf t) a (k.val + 1) := by
  unfold rl headRow
  rw [sc_eq]
  have e4 : (fun (b : Fin 512) (d : Fin 64) => (iblk m c 4 t : S1x1x64x512.Idx → EReal) (ix4 0 0 d b)) = fun b d => vA m c (bOf t) b (hOf t) d := by
    funext b d; exact blk4_apply m c t d b
  have e5 : (fun (d : Fin 64) => (iblk m c 5 t : S1x1x64x512.Idx → EReal) (ix4 0 0 d a)) = fun d => gA m c (bOf t) a (hOf t) d := by
    funext d; exact blk5_apply m c t d a
  exact congrFun (congr (congrArg _ e4) e5) _

/-! ## The result arrays -/

theorem dist7 : ∀ t t' : Fin cfg0.N, win0_7.index t = win0_7.index t' → t = t' :=
  (by decide +kernel : ∀ t t' : Fin grid0.N, win0_7.index t = win0_7.index t' → t = t')
theorem dist6 : ∀ t t' : Fin cfg0.N, (cfg0.win 6).flush t = true → (cfg0.win 6).flush t' = true → t = t' := fun t t' h h' => by
  have h1 := (flush0_6 t).mp h
  have h2 := (flush0_6 t').mp h'
  have := pt_lt t
  have := pt_lt t'
  exact Fin.ext (by omega)
theorem dist8 : ∀ t t' : Fin cfg0.N, (cfg0.win 8).flush t = true → (cfg0.win 8).flush t' = true → win0_8.index t = win0_8.index t' → t = t' := fun t t' h h' e => by
  have h1 := (flush0_8 t).mp h
  have h2 := (flush0_8 t').mp h'
  have e0 := congrFun e (0 : Fin 3)
  rw [(index8 t).1, (index8 t').1] at e0
  exact Fin.ext (by omega)

/-- The point of batch `b` and head `h`. -/
def pt (b : Fin 3) (h : Fin 32) : Fin cfg0.N := ⟨32 * b.val + h.val, by have : cfg0.N = 96 := N_0; omega⟩

theorem bOf_pt (b : Fin 3) (h : Fin 32) : bOf (pt b h) = b := Fin.ext (by show (32 * b.val + h.val) / 32 = b.val; omega)
theorem hOf_pt (b : Fin 3) (h : Fin 32) : hOf (pt b h) = h := Fin.ext (by show (32 * b.val + h.val) % 32 = h.val; omega)

theorem part_eq (c : Dev nD) (b : Fin 3) (h : Fin 32) (k : Fin 16) :
    part m c (32 * b.val + h.val) k = ∑ a : Fin 512, headRow (qA m c) (qsA m c) (kA m c) (ksA m c) (vA m c) (gA m c) b h a (k.val + 1) := by
  unfold part
  rw [dif_pos (show 32 * b.val + h.val < cfg0.N from (pt b h).isLt)]
  refine Finset.sum_congr rfl fun a _ => ?_
  show rl m c (pt b h) a k = _
  rw [rl_eq, bOf_pt, hOf_pt]

theorem acc_eq (c : Dev nD) (h : Fin 32) (k : Fin 16) :
    acc m c h k 2 = headLoss (qA m c) (qsA m c) (kA m c) (ksA m c) (vA m c) (gA m c) h (k.val + 1) := by
  have h0 := part_eq m c 0 h k
  have h1 := part_eq m c 1 h k
  have h2 := part_eq m c 2 h k
  unfold headLoss
  rw [Fin.sum_univ_three, ← h0, ← h1, ← h2]
  have e : 32 * ((0 : Fin 3) : ℕ) + h.val = h.val := by simp
  rw [e]
  rfl

variable {m} in
theorem result6 {r : PUnit × MemSt nD τ sig (Elt Ideal)} (hr : RDat.FramePost (cfgs 0) (rdat m) (V m) r) (c : Dev nD) (h : Fin 32) (k : Fin 16) :
    (r.2.mem ((c.tc : Thread nD τ).loc main_v6_0) : S32x16.Idx → EReal) (ix2 h k)
      = headLoss (qA m c) (qsA m c) (kA m c) (ksA m c) (vA m c) (gA m c) h (k.val + 1) := by
  obtain ⟨after, hl, hm⟩ := RDat.FramePost.exists_exact hr c
  have hf : (cfg0.win 6).flush (pt 2 31) = true := (flush0_6 (pt 2 31)).mpr rfl
  have hL : Rl6 m c (pt 2 31) (after 6 (pt 2 31)) :=
    (dats m 0 c).toRRel_leaves (fgt := marks) (Rl := Rl m c) (w := 6) rfl (hl 6 (pt 2 31) hf)
  have hb := congrFun (((rdat m c).withAfter after).read_blk_arrAt_eq_flushed 6
    (fun t t' h h' hne => absurd (dist6 t t' h h') hne) cfg0.N (pt 2 31) (pt 2 31).isLt hf) (ix2 h k)
  have hb' : (((rdat m c).withAfter after).arrAt 6 cfg0.N : S32x16.Idx → EReal) (((cfg0.win 6).blk (pt 2 31)).view.emb (ix2 h k : S32x16.Idx))
      = (after 6 (pt 2 31) : S32x16.Idx → EReal) (ix2 h k) := hb
  rw [emb6] at hb'
  refine ((congrFun (hm 6) (ix2 h k)).trans hb').trans ?_
  rw [hL h k 2 (by show 32 * 2 + h.val ≤ 32 * 2 + 31; omega) (by show 32 * 2 + 31 < 32 * (2 + 1) + h.val; omega), acc_eq]

variable {m} in
theorem result7 {r : PUnit × MemSt nD τ sig (Elt Ideal)} (hr : RDat.FramePost (cfgs 0) (rdat m) (V m) r) (c : Dev nD)
    (b : Fin 3) (h : Fin 32) (a : Fin 512) (k : Fin 16) :
    (r.2.mem ((c.tc : Thread nD τ).loc main_v6_1) : S3x32x512x16.Idx → EReal) (ix4 b h a k)
      = headRow (qA m c) (qsA m c) (kA m c) (ksA m c) (vA m c) (gA m c) b h a (k.val + 1) := by
  obtain ⟨after, hl, hm⟩ := RDat.FramePost.exists_exact hr c
  have hf : (cfg0.win 7).flush (pt b h) = true := flush0_7 (pt b h)
  have hL : Rl7 m c (pt b h) (after 7 (pt b h)) :=
    (dats m 0 c).toRRel_leaves (fgt := marks) (Rl := Rl m c) (w := 7) rfl (hl 7 (pt b h) hf)
  have hb := congrFun (((rdat m c).withAfter after).read_blk_arrAt_eq_flushed 7
    (fun t t' _ _ hne => (cfg0.win 7).disjoint_blk fun e => hne (dist7 t t' e)) cfg0.N (pt b h) (pt b h).isLt hf) (ix4 0 0 a k)
  have hb' : (((rdat m c).withAfter after).arrAt 7 cfg0.N : S3x32x512x16.Idx → EReal) (((cfg0.win 7).blk (pt b h)).view.emb (ix4 0 0 a k : S1x1x512x16.Idx))
      = (after 7 (pt b h) : S1x1x512x16.Idx → EReal) (ix4 0 0 a k) := hb
  rw [emb7, bOf_pt, hOf_pt] at hb'
  refine ((congrFun (hm 7) (ix4 b h a k)).trans hb').trans ?_
  rw [hL a k, rl_eq, bOf_pt, hOf_pt]

variable {m} in
theorem result8 {r : PUnit × MemSt nD τ sig (Elt Ideal)} (hr : RDat.FramePost (cfgs 0) (rdat m) (V m) r) (c : Dev nD)
    (b : Fin 3) (h : Fin 32) (a : Fin 512) :
    (r.2.mem ((c.tc : Thread nD τ).loc main_v6_2) : S3x32x512.Idx → EReal) (ix3 b h a)
      = lse (headScore (qA m c) (qsA m c) (kA m c) (ksA m c) b h a) - logSeq := by
  obtain ⟨after, hl, hm⟩ := RDat.FramePost.exists_exact hr c
  have hf : (cfg0.win 8).flush (pt b 31) = true := (flush0_8 (pt b 31)).mpr (by show (32 * b.val + 31) % 32 = 31; omega)
  have hL : Rl8 m c (pt b 31) (after 8 (pt b 31)) :=
    (dats m 0 c).toRRel_leaves (fgt := marks) (Rl := Rl m c) (w := 8) rfl (hl 8 (pt b 31) hf)
  have hb := congrFun (((rdat m c).withAfter after).read_blk_arrAt_eq_flushed 8
    (fun t t' h h' hne => (cfg0.win 8).disjoint_blk fun e => hne (dist8 t t' h h' e)) cfg0.N (pt b 31) (pt b 31).isLt hf) (ix3 0 h a)
  have hb' : (((rdat m c).withAfter after).arrAt 8 cfg0.N : S3x32x512.Idx → EReal) (((cfg0.win 8).blk (pt b 31)).view.emb (ix3 0 h a : S1x32x512.Idx))
      = (after 8 (pt b 31) : S1x32x512.Idx → EReal) (ix3 0 h a) := hb
  rw [emb8, bOf_pt] at hb'
  refine ((congrFun (hm 8) (ix3 b h a)).trans hb').trans ?_
  rw [hL (pt b h) h a (by show 32 * b.val + h.val ≤ 32 * b.val + 31; omega) (by show (32 * b.val + h.val) / 32 = (32 * b.val + 31) / 32; omega)
    (by show h.val = (32 * b.val + h.val) % 32; omega), sc_eq, bOf_pt, hOf_pt]

end Cert.KernelIdeal.Hand

end
-- ==== Proof.RCode.lean ====
/- The reference's quantiser of one probability, on the extended reals: an eight-bit code, taken apart again into a level and
   a step, is the quantiser of `Quant.lean`. -/
module

public import proofs.«01_k».proof.Proof.Spec
public import Idealize.ShloMosaic.Lib.Pointwise

@[expose] public section

noncomputable section

namespace Cert.Math

open Idealize.ShloMosaic

/-- The code of `x`: below the threshold `C` the level on the fine grid, `A` steps to one; from there on the level on the coarse
    grid, eight steps to one, with eight added to it. -/
def code (A C : BitVec 32) (x : EReal) : BitVec 8 :=
  Ideal.fptosi 8 (Scalar.select (Ideal.cmp .olt x (Ideal.ofBits .f32 C))
    (min (Ideal.ofBits .f32 0x40E00000#32) (max (Ideal.ofBits .f32 0x00000000#32) (Ideal.liftRound Ideal.roundHalfEven (x * Ideal.ofBits .f32 A))))
    (min (Ideal.ofBits .f32 0x40E00000#32) (max (Ideal.ofBits .f32 0x00000000#32) (Ideal.liftRound Ideal.roundHalfEven (x * Ideal.ofBits .f32 0x41000000#32)))
      + Ideal.ofBits .f32 0x41000000#32))

/-- The number a code stands for: its level times the coarse step or, of a code below eight, the fine step `D`. -/
def decode (D : BitVec 16) (w : BitVec 8) : EReal :=
  (((IntOp.andi w 7#8).toInt : ℝ) : EReal) * Scalar.select (IntOp.cmpi .sge w 8#8) (Ideal.ofBits .bf16 0x3E00#16) (Ideal.ofBits .bf16 D)

theorem ofBits_seven : Ideal.ofBits .f32 0x40E00000#32 = ((7 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]
theorem ofBits_eighth : Ideal.ofBits .bf16 0x3E00#16 = ((1 / 8 : ℝ) : EReal) := by
  simp [Ideal.ofBits, Ideal.ieee, -EReal.coe_mul]; norm_num

theorem clip_coe (k : ℤ) : min ((7 : ℝ) : EReal) (max ((0 : ℝ) : EReal) ((k : ℝ) : EReal)) = (((min (max 0 k) 7 : ℤ) : ℝ) : EReal) := by
  have hm : Monotone ((↑) : ℝ → EReal) := EReal.coe_strictMono.monotone
  rw [← hm.map_max, ← hm.map_min, min_comm]
  push_cast
  rfl

/-- The level on the grid of step `2⁻ᵉ`. -/
def level (e : ℕ) (r : ℝ) : ℤ := Ideal.roundHalfEven (min (r * 2 ^ e) 7)

theorem level_nonneg {e : ℕ} {r : ℝ} (h0 : 0 ≤ r) : 0 ≤ level e r := round_nonneg (le_min (by positivity) (by norm_num))
theorem level_le (e : ℕ) (r : ℝ) : level e r ≤ 7 := round_le (by exact_mod_cast min_le_right _ _)

theorem level_clip {e : ℕ} {r : ℝ} (h0 : 0 ≤ r) :
    min ((7 : ℝ) : EReal) (max ((0 : ℝ) : EReal) (Ideal.liftRound Ideal.roundHalfEven ((r : EReal) * ((2 ^ e : ℝ) : EReal)))) = ((level e r : ℝ) : EReal) := by
  rw [← EReal.coe_mul, Ideal.liftRound_coe, clip_coe, ← round_min (by positivity)]
  rfl

theorem fptosi_coe {n : ℤ} (h0 : 0 ≤ n) (h1 : n ≤ 15) : Ideal.fptosi 8 ((n : ℝ) : EReal) = BitVec.ofInt 8 n := by
  unfold Ideal.fptosi
  rw [Ideal.toIntClamped_coe, if_pos (by exact_mod_cast h0), Int.floor_intCast]
  congr 1
  norm_num
  omega

theorem decode_small (D : BitVec 16) {n : ℤ} (h0 : 0 ≤ n) (h1 : n ≤ 7) :
    decode D (BitVec.ofInt 8 n) = ((n : ℝ) : EReal) * Ideal.ofBits .bf16 D := by
  have e1 : (IntOp.andi (BitVec.ofInt 8 n) 7#8).toInt = n := by interval_cases n <;> rfl
  have e2 : IntOp.cmpi .sge (BitVec.ofInt 8 n) 8#8 = 0#1 := by interval_cases n <;> rfl
  unfold decode
  rw [e1, e2]; rfl

theorem decode_large (D : BitVec 16) {n : ℤ} (h0 : 0 ≤ n) (h1 : n ≤ 7) :
    decode D (BitVec.ofInt 8 (n + 8)) = ((n : ℝ) : EReal) * ((1 / 8 : ℝ) : EReal) := by
  have e1 : (IntOp.andi (BitVec.ofInt 8 (n + 8)) 7#8).toInt = n := by interval_cases n <;> rfl
  have e2 : IntOp.cmpi .sge (BitVec.ofInt 8 (n + 8)) 8#8 = 1#1 := by interval_cases n <;> rfl
  unfold decode
  rw [e1, e2, ofBits_eighth]; rfl

/-- The reference's quantiser of a probability is candidate `m` of `Quant.lean`. -/
theorem decode_code {A C : BitVec 32} {D : BitVec 16} {m : ℕ} (hA : Ideal.ofBits .f32 A = ((2 ^ (3 + m) : ℝ) : EReal))
    (hC : Ideal.ofBits .f32 C = ((th m : ℝ) : EReal)) (hD : Ideal.ofBits .bf16 D = ((th (3 + m) : ℝ) : EReal)) {r : ℝ} (h0 : 0 ≤ r) :
    decode D (code A C (r : EReal)) = ((qref m r : ℝ) : EReal) := by
  unfold code qref
  rw [hC, hA, ofBits_seven, ofBits_zero, ofBits_eight, level_clip h0, show ((8 : ℝ) : EReal) = ((2 ^ 3 : ℝ) : EReal) by norm_num, level_clip h0]
  by_cases h : r < th m
  · rw [if_pos h, show Ideal.cmp .olt (r : EReal) ((th m : ℝ) : EReal) = 1#1 by
      show BitVec.ofBool (decide ((r : EReal) < ((th m : ℝ) : EReal))) = 1#1
      rw [decide_eq_true (EReal.coe_lt_coe_iff.mpr h)]; rfl]
    show decode D (Ideal.fptosi 8 ((level (3 + m) r : ℝ) : EReal)) = _
    rw [fptosi_coe (level_nonneg h0) ((level_le _ _).trans (by norm_num)), decode_small _ (level_nonneg h0) (level_le _ _), hD, ← EReal.coe_mul]
    rfl
  · rw [if_neg h, show Ideal.cmp .olt (r : EReal) ((th m : ℝ) : EReal) = 0#1 by
      show BitVec.ofBool (decide ((r : EReal) < ((th m : ℝ) : EReal))) = 0#1
      rw [decide_eq_false fun h' => h (EReal.coe_lt_coe_iff.mp h')]; rfl]
    show decode D (Ideal.fptosi 8 (((level 3 r : ℝ) : EReal) + ((2 ^ 3 : ℝ) : EReal))) = _
    rw [show (((level 3 r : ℝ) : EReal) + ((2 ^ 3 : ℝ) : EReal)) = (((level 3 r + 8 : ℤ) : ℝ) : EReal) by
      rw [← EReal.coe_add]; congr 1; push_cast; norm_num]
    have hl := level_le 3 r
    have hn := level_nonneg (e := 3) h0
    rw [fptosi_coe (by omega) (by omega), decode_large _ hn hl, ← EReal.coe_mul]
    unfold lv th level
    norm_num

end Cert.Math

end
-- ==== Proof.RPay.lean ====
/- The reference's attention read at an index, on the extended reals: scores, the largest score and the total of a row, the
   probabilities, the log-sum-exp and the exact output. Its arrays number batch `b` and head `h` as `b * 32 + h`. -/
module

public import proofs.«01_k».proof.Proof.Gen.ReferenceIdeal.Frame
public import proofs.«01_k».proof.Proof.RCode
public import Idealize.ShloMosaic.Lib.Pointwise
public import Idealize.ShloMosaic.Lib.Pipeline.Value

@[expose] public section

set_option maxRecDepth 65536

noncomputable section

namespace Cert.ReferenceIdeal.Hand

open Cert.ReferenceIdeal Cert.ReferenceIdeal.Gen Cert.Math
open Idealize.ShloMosaic Idealize.ShloMosaic.TcCoe

/-- The place of batch `b` and head `h`. -/
def hd (b : Fin 3) (h : Fin 32) : Fin 96 := ⟨b.val * 32 + h.val, by omega⟩

theorem tok_apply {φ : FTy} (x : FVec Ideal S3x512x32x64 φ) (b : Fin 3) (h : Fin 32) (a : Fin 512) (d : Fin 64) :
    shapeCast S96x512x64 (transpose S3x32x512x64 [0, 2, 1, 3] x transposes_S3x512x32x64_p0_2_1_3_S3x32x512x64) shapeCasts_S3x32x512x64_S96x512x64
      (ix3 (hd b h) a d) = x (ix4 b a h d) := by
  rw [shapeCast_apply (k := ix4 b h a d)]
  · exact transpose_apply _ _ _ _ (ix4 b a h d) (fun e => by fin_cases e <;> rfl)
  · simp [Shape.rowMajor_val_three, Shape.rowMajor_val_four, hd]

theorem scale_apply (x : FVec Ideal S3x512x32 .f32) (b : Fin 3) (h : Fin 32) (a : Fin 512) :
    shapeCast S96x512 (transpose S3x32x512 [0, 2, 1] x transposes_S3x512x32_p0_2_1_S3x32x512) shapeCasts_S3x32x512_S96x512
      (ix2 (hd b h) a) = x (ix3 b a h) := by
  rw [shapeCast_apply (k := ix3 b h a)]
  · exact transpose_apply _ _ _ _ (ix3 b a h) (fun e => by fin_cases e <;> rfl)
  · simp [Shape.rowMajor_val_two, Shape.rowMajor_val_three, hd]

theorem col_apply (x : FVec Ideal S96x512 .f32) (n : Fin 96) (a : Fin 512) (u : Fin 1) :
    shapeCast S96x512x1 x shapeCasts_S96x512_S96x512x1 (ix3 n a u) = x (ix2 n a) := by
  rw [shapeCast_apply (k := ix2 n a)]
  simp [Shape.rowMajor_val_two, Shape.rowMajor_val_three]

theorem row_apply (x : FVec Ideal S96x512 .f32) (n : Fin 96) (a : Fin 512) (u : Fin 1) :
    shapeCast S96x1x512 x shapeCasts_S96x512_S96x1x512 (ix3 n u a) = x (ix2 n a) := by
  rw [shapeCast_apply (k := ix2 n a)]
  simp [Shape.rowMajor_val_two, Shape.rowMajor_val_three]

/-- The scores of all heads from tokens and scales laid out by head. -/
def scores (t2 t5 : FVec Ideal S96x512x64 .fp8e4m3) (c : FVec Ideal S96x512x1 .f32) (r : FVec Ideal S96x1x512 .f32) : FVec Ideal S96x512x512 .f32 :=
  mulf (mulf (mulf (matmul dot_S96x512x64_S96x512x64_S96x512x512_2_2_1_1_0_0 none t2 t5 (constant S96x512x512 .f32 0x00000000#32))
    (broadcastTo S96x512x512 c broadcasts_S96x512x1_S96x512x512)) (broadcastTo S96x512x512 r broadcasts_S96x1x512_S96x512x512))
    (broadcast S96x512x512 (Scalar.ofBits .f32 0x3E000000#32 : Ideal .f32))

theorem ofBits_scale : Ideal.ofBits .f32 0x3E000000#32 = ((1 / 8 : ℝ) : EReal) := by
  simp [Ideal.ofBits, Ideal.ieee, -EReal.coe_mul]; norm_num

theorem scores_apply (t2 t5 : FVec Ideal S96x512x64 .fp8e4m3) (c : FVec Ideal S96x512x1 .f32) (r : FVec Ideal S96x1x512 .f32)
    (n : Fin 96) (i j : Fin 512) :
    scores t2 t5 c r (ix3 n i j) = (∑ d : Fin 64, t2 (ix3 n i d) * t5 (ix3 n j d)) * c (ix3 n i 0) * r (ix3 n 0 j) * ((1 / 8 : ℝ) : EReal) := by
  rw [← ofBits_scale]
  pointwise [scores]

theorem pay6_apply (v0 v3 : Vec Ideal S3x512x32x64 .fp8e4m3) (v12 v15 : Vec Ideal S3x512x32 .f32) (b : Fin 3) (h : Fin 32) (i j : Fin 512) :
    k0_pay6 v0 v3 v12 v15 (ix3 (hd b h) i j)
      = headScore (fun b a h d => v0 (ix4 b a h d)) (fun b a h => v12 (ix3 b a h)) (fun b a h d => v3 (ix4 b a h d)) (fun b a h => v15 (ix3 b a h)) b h i j := by
  refine (scores_apply _ _ _ _ (hd b h) i j).trans ?_
  rw [col_apply, row_apply, scale_apply, scale_apply]
  refine congrArg (fun z => z * v12 (ix3 b i h) * v15 (ix3 b j h) * ((1 / 8 : ℝ) : EReal)) ?_
  exact Finset.sum_congr rfl fun d _ => congrArg₂ (· * ·) (tok_apply (φ := .fp8e4m3) v0 b h i d) (tok_apply (φ := .fp8e4m3) v3 b h j d)

theorem ofBits_neg_inf : Ideal.ofBits .f32 0xFF800000#32 = ⊥ := by simp [Ideal.ofBits, Ideal.ieee]

theorem max_apply (x : FVec Ideal S96x512x512 .f32) (n : Fin 96) (i : Fin 512) (u : Fin 1) :
    shapeCast S96x512x1 (multiReduction .maximumf [2] S96x512 x 0xFF800000#32 reduces_S96x512x512_S96x512 (.inl rfl) rfl) shapeCasts_S96x512_S96x512x1
      (ix3 n i u) = rowMax (fun j => x (ix3 n i j)) := by
  rw [col_apply]
  pointwise
  rw [ofBits_neg_inf]; rfl

theorem sum_apply (x : FVec Ideal S96x512x512 .f32) (c : FVec Ideal S96x512x1 .f32) (n : Fin 96) (i : Fin 512) (u : Fin 1) :
    shapeCast S96x512x1 (multiReduction .add [2] S96x512 (exp (subf x (broadcastTo S96x512x512 c broadcasts_S96x512x1_S96x512x512))) 0x00000000#32
      reduces_S96x512x512_S96x512 (.inl rfl) rfl) shapeCasts_S96x512_S96x512x1 (ix3 n i u) = ∑ j : Fin 512, Ideal.exp (x (ix3 n i j) - c (ix3 n i 0)) := by
  rw [col_apply]
  pointwise

theorem pay9_apply (x y : FVec Ideal S96x512x1 .f32) (n : Fin 96) (i : Fin 512) (u : Fin 1) :
    k0_pay9 x y (ix3 n i u) = x (ix3 n i u) + Ideal.log (y (ix3 n i u)) := by
  pointwise [k0_pay9]

theorem pay10_apply (x : FVec Ideal S96x512x512 .f32) (c t : FVec Ideal S96x512x1 .f32) (n : Fin 96) (i j : Fin 512) :
    k0_pay10 x c t (ix3 n i j) = Ideal.exp (x (ix3 n i j) - c (ix3 n i 0) - Ideal.log (t (ix3 n i 0))) := by
  pointwise [k0_pay10]

theorem pay11_apply (v : FVec Ideal S96x512x64 .bf16) (x : FVec Ideal S96x512x512 .f32) (c t : FVec Ideal S96x512x1 .f32) (n : Fin 96) (i : Fin 512) (d : Fin 64) :
    k0_pay11 v x c t (ix3 n i d) = ∑ j : Fin 512, k0_pay10 x c t (ix3 n i j) * v (ix3 n j d) := by
  pointwise [k0_pay11]

theorem pay12_apply (g : FVec Ideal S96x512x64 .bf16) (n : Fin 96) (i : Fin 512) (d : Fin 64) :
    k0_pay12 g (ix3 n i d) = g (ix3 n i d) * g (ix3 n i d) := by
  pointwise [k0_pay12]

theorem pay3_apply (x : FVec Ideal S96x512x1 .f32) (b : Fin 3) (h : Fin 32) (a : Fin 512) :
    k0_pay3 x (ix3 b h a) = x (ix3 (hd b h) a 0) - logSeq := by
  show shapeCast S3x32x512 x shapeCasts_S96x512x1_S3x32x512 (ix3 b h a) - logSeq = _
  rw [shapeCast_apply (k := ix3 (hd b h) a 0)]
  simp [Shape.rowMajor_val_three, hd]

end Cert.ReferenceIdeal.Hand

end
-- ==== Proof.RRow.lean ====
/- The reference's losses read at an index, on the extended reals: one candidate's requantised probabilities, its loss of each
   row, and the sixteen candidates side by side. -/
module

public import proofs.«01_k».proof.Proof.RPay

@[expose] public section

set_option maxRecDepth 65536

noncomputable section

namespace Cert.ReferenceIdeal.Hand

open Cert.ReferenceIdeal Cert.ReferenceIdeal.Gen Cert.Math
open Idealize.ShloMosaic Idealize.ShloMosaic.TcCoe

/-! ## One candidate -/

/-- A level: the probabilities on the grid of `A` steps to one, rounded and kept in 0 … 7. -/
def levels (A : BitVec 32) (p : FVec Ideal S96x512x512 .f32) : FVec Ideal S96x512x512 .f32 :=
  minimumf (broadcast S96x512x512 (Scalar.ofBits .f32 0x40E00000#32 : Ideal .f32))
    (maximumf (broadcast S96x512x512 (Scalar.ofBits .f32 0x00000000#32 : Ideal .f32))
      (roundeven (mulf p (broadcast S96x512x512 (Scalar.ofBits .f32 A : Ideal .f32)))))

def codes (A C : BitVec 32) (p : FVec Ideal S96x512x512 .f32) : IVec S96x512x512 8 :=
  fptosi 8 (select (cmpf .olt p (broadcast S96x512x512 (Scalar.ofBits .f32 C : Ideal .f32))) (levels A p)
    (addf (levels 0x41000000#32 p) (broadcast S96x512x512 (Scalar.ofBits .f32 0x41000000#32 : Ideal .f32))))

/-- The requantised probabilities of one candidate. -/
def phat (A C : BitVec 32) (D : BitVec 16) (p : FVec Ideal S96x512x512 .f32) : FVec Ideal S96x512x512 .bf16 :=
  mulf (sitofp .bf16 (andi (codes A C p) (broadcast S96x512x512 7#8)))
    (select (cmpi .sge (codes A C p) (broadcast S96x512x512 8#8))
      (broadcast S96x512x512 (Scalar.ofBits .bf16 0x3E00#16 : Ideal .bf16)) (broadcast S96x512x512 (Scalar.ofBits .bf16 D : Ideal .bf16)))

theorem phat_apply (A C : BitVec 32) (D : BitVec 16) (p : FVec Ideal S96x512x512 .f32) (i : S96x512x512.Idx) :
    phat A C D p i = decode D (code A C (p i)) := rfl

/-- The weighted squared errors of requantised probabilities `ph`. -/
def errv (ph : FVec Ideal S96x512x512 .bf16) (v : FVec Ideal S96x512x64 .bf16) (o g2 : FVec Ideal S96x512x64 .f32) : FVec Ideal S96x512x64 .f32 :=
  mulf g2 (mulf (subf (matmul dot_S96x512x512_S96x512x64_S96x512x64_2_1_1_2_0_0 none ph v (constant S96x512x64 .f32 0x00000000#32)) o)
    (subf (matmul dot_S96x512x512_S96x512x64_S96x512x64_2_1_1_2_0_0 none ph v (constant S96x512x64 .f32 0x00000000#32)) o))

def rowv (x : FVec Ideal S96x512x64 .f32) : FVec Ideal S96x512 .f32 :=
  multiReduction .add [2] S96x512 x 0x00000000#32 reduces_S96x512x64_S96x512 (.inl rfl) rfl

theorem rowv_apply (ph : FVec Ideal S96x512x512 .bf16) (v : FVec Ideal S96x512x64 .bf16) (o g2 : FVec Ideal S96x512x64 .f32) (n : Fin 96) (i : Fin 512) :
    rowv (errv ph v o g2) (ix2 n i) = ∑ d : Fin 64, g2 (ix3 n i d)
      * (((∑ j : Fin 512, ph (ix3 n i j) * v (ix3 n j d)) - o (ix3 n i d)) * ((∑ j : Fin 512, ph (ix3 n i j) * v (ix3 n j d)) - o (ix3 n i d))) := by
  pointwise [rowv, errv]

/-! ## The candidates side by side -/

theorem cat_apply (L : Fin 16 → FVec Ideal S96x512x1 .f32) (n : Fin 96) (a : Fin 512) (k : Fin 16) :
    concatenate S96x512x16 2 [⟨S96x512x1, L 0⟩, ⟨S96x512x1, L 1⟩, ⟨S96x512x1, L 2⟩, ⟨S96x512x1, L 3⟩, ⟨S96x512x1, L 4⟩, ⟨S96x512x1, L 5⟩, ⟨S96x512x1, L 6⟩, ⟨S96x512x1, L 7⟩, ⟨S96x512x1, L 8⟩, ⟨S96x512x1, L 9⟩, ⟨S96x512x1, L 10⟩, ⟨S96x512x1, L 11⟩, ⟨S96x512x1, L 12⟩, ⟨S96x512x1, L 13⟩, ⟨S96x512x1, L 14⟩, ⟨S96x512x1, L 15⟩]
      concatenates_S96x512x1_S96x512x1_S96x512x1_S96x512x1_S96x512x1_S96x512x1_S96x512x1_S96x512x1_S96x512x1_S96x512x1_S96x512x1_S96x512x1_S96x512x1_S96x512x1_S96x512x1_S96x512x1_S96x512x16_d2 (ix3 n a k) = L k (ix3 n a 0) := by
  refine (concatenate_ofFn_unit_apply' (t := S96x512x16) (s₁ := S96x512x1) 2 L
    concatenates_S96x512x1_S96x512x1_S96x512x1_S96x512x1_S96x512x1_S96x512x1_S96x512x1_S96x512x1_S96x512x1_S96x512x1_S96x512x1_S96x512x1_S96x512x1_S96x512x1_S96x512x1_S96x512x1_S96x512x16_d2 rfl (ix3 n a k)).trans ?_
  refine congrArg (L k) ?_
  funext e; fin_cases e <;> rfl

theorem pay1_apply (L : Fin 15 → FVec Ideal S96x512 .f32) (e : FVec Ideal S96x512x64 .f32) (b : Fin 3) (h : Fin 32) (a : Fin 512) (k : Fin 16) :
    k0_pay1 (L 0) (L 1) (L 2) (L 3) (L 4) (L 5) (L 6) (L 7) (L 8) (L 9) (L 10) (L 11) (L 12) (L 13) (L 14) e (ix4 b h a k) = (if hk : k.val < 15 then L ⟨k.val, hk⟩ else rowv e) (ix2 (hd b h) a) := by
  unfold k0_pay1
  refine (shapeCast_apply (k := ix3 (hd b h) a k) _ shapeCasts_S96x512x16_S3x32x512x16 (ix4 b h a k) ?_).trans ?_
  · simp [Shape.rowMajor_val_three, Shape.rowMajor_val_four, hd]
  · refine (cat_apply (fun k => shapeCast S96x512x1 (if hk : k.val < 15 then L ⟨k.val, hk⟩ else rowv e) shapeCasts_S96x512_S96x512x1) (hd b h) a k).trans ?_
    exact col_apply _ _ _ _

theorem drop_zero (i : S3x32x512x16.Idx) : reduces_S3x32x512x16_S32x16.drop i 0 = i 1 := rfl
theorem drop_one (i : S3x32x512x16.Idx) : reduces_S3x32x512x16_S32x16.drop i 1 = i 3 := rfl

/-- The sum over batches and rows. -/
theorem reduce_apply (x : FVec Ideal S3x32x512x16 .f32) (h : Fin 32) (k : Fin 16) :
    Ideal.reduceAdd reduces_S3x32x512x16_S32x16 x (ix2 h k) = ∑ b : Fin 3, ∑ a : Fin 512, x (ix4 b h a k) := by
  unfold Ideal.reduceAdd
  rw [← Finset.sum_product' Finset.univ Finset.univ (fun (b : Fin 3) (a : Fin 512) => x (ix4 b h a k))]
  have key : ∀ i : S3x32x512x16.Idx, reduces_S3x32x512x16_S32x16.drop i = ix2 h k → ix4 (i 0) h (i 2) k = i := fun i hi => by
    have h0 : i 1 = h := congrFun hi 0
    have h1 : i 3 = k := congrFun hi 1
    funext e
    fin_cases e
    · rfl
    · exact h0.symm
    · rfl
    · exact h1.symm
  refine Finset.sum_nbij' (fun i => ((i 0 : Fin 3), (i 2 : Fin 512))) (fun p => ix4 p.1 h p.2 k) ?_ ?_ ?_ ?_ ?_
  · exact fun _ _ => Finset.mem_product.mpr ⟨Finset.mem_univ _, Finset.mem_univ _⟩
  · intro p _
    refine Finset.mem_filter.mpr ⟨Finset.mem_univ _, ?_⟩
    funext e
    fin_cases e <;> rfl
  · exact fun i hi => key i (Finset.mem_filter.mp hi).2
  · exact fun _ _ => rfl
  · exact fun i hi => congrArg x (key i (Finset.mem_filter.mp hi).2).symm

theorem pay2_apply (L : Fin 15 → FVec Ideal S96x512 .f32) (e : FVec Ideal S96x512x64 .f32) (h : Fin 32) (k : Fin 16) :
    k0_pay2 (L 0) (L 1) (L 2) (L 3) (L 4) (L 5) (L 6) (L 7) (L 8) (L 9) (L 10) (L 11) (L 12) (L 13) (L 14) e (ix2 h k) = ∑ b : Fin 3, ∑ a : Fin 512, k0_pay1 (L 0) (L 1) (L 2) (L 3) (L 4) (L 5) (L 6) (L 7) (L 8) (L 9) (L 10) (L 11) (L 12) (L 13) (L 14) e (ix4 b h a k) := by
  unfold k0_pay2
  dsimp only
  generalize k0_pay1 (L 0) (L 1) (L 2) (L 3) (L 4) (L 5) (L 6) (L 7) (L 8) (L 9) (L 10) (L 11) (L 12) (L 13) (L 14) e = x
  exact reduce_apply x h k

end Cert.ReferenceIdeal.Hand

end
-- ==== Proof.RefRun.lean ====
/- The run of the reference: at its one grid point every window's block is its whole array, so each result array ends as the
   body's function of the six argument arrays. -/
module

public import proofs.«01_k».proof.Proof.Gen.ReferenceIdeal.Frame
public import Idealize.ShloMosaic.Lib.Pipeline.Value

@[expose] public section

noncomputable section

namespace Cert.ReferenceIdeal.Ref

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S32x16.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S3x32x512x16.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S3x32x512.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)

/-! ## Closed form at one grid point: every window's block is its array -/

theorem hz0 : (![0, 0, 0, 0] : Fin 4 → Nat) = fun _ => 0 := funext fun a => by fin_cases a <;> rfl

/-- Window 0's block index at the one point is zero on every axis. -/
theorem idx_zero0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

/-- An index of window 0's block is the same index of its array. -/
theorem emb0 (t : Fin cfg0.N) (j : S3x512x32x64.Idx) : ((cfg0.win 0).blk t).view.emb j = j := by
  obtain ⟨e0, e1, e2, e3⟩ := idx_zero0 t
  funext a; apply Fin.ext
  match a with
  | ⟨0, _⟩ => show win0_0.index t (0 : Fin 4) * 3 + 1 * (j 0).val = (j 0).val; omega
  | ⟨1, _⟩ => show win0_0.index t (1 : Fin 4) * 512 + 1 * (j 1).val = (j 1).val; omega
  | ⟨2, _⟩ => show win0_0.index t (2 : Fin 4) * 32 + 1 * (j 2).val = (j 2).val; omega
  | ⟨3, _⟩ => show win0_0.index t (3 : Fin 4) * 64 + 1 * (j 3).val = (j 3).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S3x512x32.Idx) : ((cfg0.win 1).blk t).view.emb j = j := by
  obtain ⟨e0, e1, e2⟩ := idx_zero1 t
  funext a; apply Fin.ext
  match a with
  | ⟨0, _⟩ => show win0_1.index t (0 : Fin 3) * 3 + 1 * (j 0).val = (j 0).val; omega
  | ⟨1, _⟩ => show win0_1.index t (1 : Fin 3) * 512 + 1 * (j 1).val = (j 1).val; omega
  | ⟨2, _⟩ => show win0_1.index t (2 : Fin 3) * 32 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0, 0] : Fin 4 → Nat) = fun _ => 0 := funext fun a => by fin_cases a <;> rfl

/-- Window 2's block index at the one point is zero on every axis. -/
theorem idx_zero2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)

/-- An index of window 2's block is the same index of its array. -/
theorem emb2 (t : Fin cfg0.N) (j : S3x512x32x64.Idx) : ((cfg0.win 2).blk t).view.emb j = j := by
  obtain ⟨e0, e1, e2, e3⟩ := idx_zero2 t
  funext a; apply Fin.ext
  match a with
  | ⟨0, _⟩ => show win0_2.index t (0 : Fin 4) * 3 + 1 * (j 0).val = (j 0).val; omega
  | ⟨1, _⟩ => show win0_2.index t (1 : Fin 4) * 512 + 1 * (j 1).val = (j 1).val; omega
  | ⟨2, _⟩ => show win0_2.index t (2 : Fin 4) * 32 + 1 * (j 2).val = (j 2).val; omega
  | ⟨3, _⟩ => show win0_2.index t (3 : Fin 4) * 64 + 1 * (j 3).val = (j 3).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S3x512x32.Idx) : ((cfg0.win 3).blk t).view.emb j = j := by
  obtain ⟨e0, e1, e2⟩ := idx_zero3 t
  funext a; apply Fin.ext
  match a with
  | ⟨0, _⟩ => show win0_3.index t (0 : Fin 3) * 3 + 1 * (j 0).val = (j 0).val; omega
  | ⟨1, _⟩ => show win0_3.index t (1 : Fin 3) * 512 + 1 * (j 1).val = (j 1).val; omega
  | ⟨2, _⟩ => show win0_3.index t (2 : Fin 3) * 32 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0, 0] : Fin 4 → Nat) = fun _ => 0 := funext fun a => by fin_cases a <;> rfl

/-- Window 4's block index at the one point is zero on every axis. -/
theorem idx_zero4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

/-- An index of window 4's block is the same index of its array. -/
theorem emb4 (t : Fin cfg0.N) (j : S3x512x32x64.Idx) : ((cfg0.win 4).blk t).view.emb j = j := by
  obtain ⟨e0, e1, e2, e3⟩ := idx_zero4 t
  funext a; apply Fin.ext
  match a with
  | ⟨0, _⟩ => show win0_4.index t (0 : Fin 4) * 3 + 1 * (j 0).val = (j 0).val; omega
  | ⟨1, _⟩ => show win0_4.index t (1 : Fin 4) * 512 + 1 * (j 1).val = (j 1).val; omega
  | ⟨2, _⟩ => show win0_4.index t (2 : Fin 4) * 32 + 1 * (j 2).val = (j 2).val; omega
  | ⟨3, _⟩ => show win0_4.index t (3 : Fin 4) * 64 + 1 * (j 3).val = (j 3).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0, 0] : Fin 4 → Nat) = fun _ => 0 := funext fun a => by fin_cases a <;> rfl

/-- Window 5's block index at the one point is zero on every axis. -/
theorem idx_zero5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

/-- An index of window 5's block is the same index of its array. -/
theorem emb5 (t : Fin cfg0.N) (j : S3x512x32x64.Idx) : ((cfg0.win 5).blk t).view.emb j = j := by
  obtain ⟨e0, e1, e2, e3⟩ := idx_zero5 t
  funext a; apply Fin.ext
  match a with
  | ⟨0, _⟩ => show win0_5.index t (0 : Fin 4) * 3 + 1 * (j 0).val = (j 0).val; omega
  | ⟨1, _⟩ => show win0_5.index t (1 : Fin 4) * 512 + 1 * (j 1).val = (j 1).val; omega
  | ⟨2, _⟩ => show win0_5.index t (2 : Fin 4) * 32 + 1 * (j 2).val = (j 2).val; omega
  | ⟨3, _⟩ => show win0_5.index t (3 : Fin 4) * 64 + 1 * (j 3).val = (j 3).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S32x16.Idx) : ((cfg0.win 6).blk t).view.emb j = j := by
  obtain ⟨e0, e1⟩ := idx_zero6 t
  funext a; apply Fin.ext
  match a with
  | ⟨0, _⟩ => show win0_6.index t (0 : Fin 2) * 32 + 1 * (j 0).val = (j 0).val; omega
  | ⟨1, _⟩ => show win0_6.index t (1 : Fin 2) * 16 + 1 * (j 1).val = (j 1).val; omega

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S3x32x512x16.Idx) : ((cfg0.win 7).blk t).view.emb j = j := by
  obtain ⟨e0, e1, e2, e3⟩ := idx_zero7 t
  funext a; apply Fin.ext
  match a with
  | ⟨0, _⟩ => show win0_7.index t (0 : Fin 4) * 3 + 1 * (j 0).val = (j 0).val; omega
  | ⟨1, _⟩ => show win0_7.index t (1 : Fin 4) * 32 + 1 * (j 1).val = (j 1).val; omega
  | ⟨2, _⟩ => show win0_7.index t (2 : Fin 4) * 512 + 1 * (j 2).val = (j 2).val; omega
  | ⟨3, _⟩ => show win0_7.index t (3 : Fin 4) * 16 + 1 * (j 3).val = (j 3).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S3x32x512.Idx) : ((cfg0.win 8).blk t).view.emb j = j := by
  obtain ⟨e0, e1, e2⟩ := idx_zero8 t
  funext a; apply Fin.ext
  match a with
  | ⟨0, _⟩ => show win0_8.index t (0 : Fin 3) * 3 + 1 * (j 0).val = (j 0).val; omega
  | ⟨1, _⟩ => show win0_8.index t (1 : Fin 3) * 32 + 1 * (j 1).val = (j 1).val; omega
  | ⟨2, _⟩ => show win0_8.index t (2 : Fin 3) * 512 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S3x512x32x64 .fp8e4m3) (a1 : Vec F S3x512x32 .f32) (a2 : Vec F S3x512x32x64 .fp8e4m3) (a3 : Vec F S3x512x32 .f32) (a4 : Vec F S3x512x32x64 .bf16) (a5 : Vec F S3x512x32x64 .bf16) : Vec F S32x16 .f32 :=
  k0_pay2 (k0_pay64 a0 a1 a2 a3 a4 a5) (k0_pay65 a0 a1 a2 a3 a4 a5) (k0_pay66 a0 a1 a2 a3 a4 a5) (k0_pay67 a0 a1 a2 a3 a4 a5) (k0_pay68 a0 a1 a2 a3 a4 a5) (k0_pay69 a0 a1 a2 a3 a4 a5) (k0_pay70 a0 a1 a2 a3 a4 a5) (k0_pay71 a0 a1 a2 a3 a4 a5) (k0_pay72 a0 a1 a2 a3 a4 a5) (k0_pay73 a0 a1 a2 a3 a4 a5) (k0_pay74 a0 a1 a2 a3 a4 a5) (k0_pay75 a0 a1 a2 a3 a4 a5) (k0_pay76 a0 a1 a2 a3 a4 a5) (k0_pay77 a0 a1 a2 a3 a4 a5) (k0_pay78 a0 a1 a2 a3 a4 a5) (k0_pay79 a0 a1 a2 a3 a4 a5)

/-- The one store through the whole rectangle leaves its payload. -/
theorem out6_eq (a0 : Vec F S3x512x32x64 .fp8e4m3) (a1 : Vec F S3x512x32 .f32) (a2 : Vec F S3x512x32x64 .fp8e4m3) (a3 : Vec F S3x512x32 .f32) (a4 : Vec F S3x512x32x64 .bf16) (a5 : Vec F S3x512x32x64 .bf16) : out0_6 (F := F) a0 a1 a2 a3 a4 a5 = G6 a0 a1 a2 a3 a4 a5 := by
  unfold out0_6
  rw [View.canon_unit_zero hz6]

/-- Cutting the point's block out of `X` and reading `X` through the block's view give the same. -/
theorem cut6_eq (t : Fin cfg0.N) (X : Vec F S32x16 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S32x16.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S3x512x32x64 .fp8e4m3) (a1 : Vec F S3x512x32 .f32) (a2 : Vec F S3x512x32x64 .fp8e4m3) (a3 : Vec F S3x512x32 .f32) (a4 : Vec F S3x512x32x64 .bf16) (a5 : Vec F S3x512x32x64 .bf16) : Vec F S3x32x512x16 .f32 :=
  k0_pay1 (k0_pay64 a0 a1 a2 a3 a4 a5) (k0_pay65 a0 a1 a2 a3 a4 a5) (k0_pay66 a0 a1 a2 a3 a4 a5) (k0_pay67 a0 a1 a2 a3 a4 a5) (k0_pay68 a0 a1 a2 a3 a4 a5) (k0_pay69 a0 a1 a2 a3 a4 a5) (k0_pay70 a0 a1 a2 a3 a4 a5) (k0_pay71 a0 a1 a2 a3 a4 a5) (k0_pay72 a0 a1 a2 a3 a4 a5) (k0_pay73 a0 a1 a2 a3 a4 a5) (k0_pay74 a0 a1 a2 a3 a4 a5) (k0_pay75 a0 a1 a2 a3 a4 a5) (k0_pay76 a0 a1 a2 a3 a4 a5) (k0_pay77 a0 a1 a2 a3 a4 a5) (k0_pay78 a0 a1 a2 a3 a4 a5) (k0_pay79 a0 a1 a2 a3 a4 a5)

/-- The one store through the whole rectangle leaves its payload. -/
theorem out7_eq (a0 : Vec F S3x512x32x64 .fp8e4m3) (a1 : Vec F S3x512x32 .f32) (a2 : Vec F S3x512x32x64 .fp8e4m3) (a3 : Vec F S3x512x32 .f32) (a4 : Vec F S3x512x32x64 .bf16) (a5 : Vec F S3x512x32x64 .bf16) : out0_7 (F := F) a0 a1 a2 a3 a4 a5 = G7 a0 a1 a2 a3 a4 a5 := by
  unfold out0_7
  rw [View.canon_unit_zero hz7]

/-- Cutting the point's block out of `X` and reading `X` through the block's view give the same. -/
theorem cut7_eq (t : Fin cfg0.N) (X : Vec F S3x32x512x16 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S3x32x512x16.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S3x512x32x64 .fp8e4m3) (a1 : Vec F S3x512x32 .f32) (a2 : Vec F S3x512x32x64 .fp8e4m3) (a3 : Vec F S3x512x32 .f32) (a4 : Vec F S3x512x32x64 .bf16) (a5 : Vec F S3x512x32x64 .bf16) : Vec F S3x32x512 .f32 :=
  k0_pay3 (k0_pay9 (k0_pay59 a0 a1 a2 a3 a4 a5) (k0_pay60 a0 a1 a2 a3 a4 a5))

/-- The one store through the whole rectangle leaves its payload. -/
theorem out8_eq (a0 : Vec F S3x512x32x64 .fp8e4m3) (a1 : Vec F S3x512x32 .f32) (a2 : Vec F S3x512x32x64 .fp8e4m3) (a3 : Vec F S3x512x32 .f32) (a4 : Vec F S3x512x32x64 .bf16) (a5 : Vec F S3x512x32x64 .bf16) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S3x32x512 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S3x32x512.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Ref

end
-- ==== Proof.RFinal.lean ====
/- The reference's three results, read at an index of their arrays. -/
module

public import proofs.«01_k».proof.Proof.RRow
public import proofs.«01_k».proof.Proof.RefRun

@[expose] public section

set_option maxRecDepth 65536

noncomputable section

namespace Cert.ReferenceIdeal.Hand

open Cert.ReferenceIdeal Cert.ReferenceIdeal.Gen Cert.Math
open Idealize.ShloMosaic Idealize.ShloMosaic.TcCoe

/-! ## The constants of candidate `m` -/

/-- `A` is the fine grid's steps to one, `C` the threshold and `D` the fine step of candidate `m`. -/
structure Grid (m : ℕ) (A C : BitVec 32) (D : BitVec 16) : Prop where
  steps : Ideal.ofBits .f32 A = ((2 ^ (3 + m) : ℝ) : EReal)
  threshold : Ideal.ofBits .f32 C = ((th m : ℝ) : EReal)
  fine : Ideal.ofBits .bf16 D = ((th (3 + m) : ℝ) : EReal)

theorem grid1 : Grid 1 0x41800000#32 0x3F000000#32 0x3D80#16 := by
  constructor <;> simp [Ideal.ofBits, Ideal.ieee, th, -EReal.coe_mul, -EReal.coe_pow] <;> norm_num
theorem grid2 : Grid 2 0x42000000#32 0x3E800000#32 0x3D00#16 := by
  constructor <;> simp [Ideal.ofBits, Ideal.ieee, th, -EReal.coe_mul, -EReal.coe_pow] <;> norm_num
theorem grid3 : Grid 3 0x42800000#32 0x3E000000#32 0x3C80#16 := by
  constructor <;> simp [Ideal.ofBits, Ideal.ieee, th, -EReal.coe_mul, -EReal.coe_pow] <;> norm_num
theorem grid4 : Grid 4 0x43000000#32 0x3D800000#32 0x3C00#16 := by
  constructor <;> simp [Ideal.ofBits, Ideal.ieee, th, -EReal.coe_mul, -EReal.coe_pow] <;> norm_num
theorem grid5 : Grid 5 0x43800000#32 0x3D000000#32 0x3B80#16 := by
  constructor <;> simp [Ideal.ofBits, Ideal.ieee, th, -EReal.coe_mul, -EReal.coe_pow] <;> norm_num
theorem grid6 : Grid 6 0x44000000#32 0x3C800000#32 0x3B00#16 := by
  constructor <;> simp [Ideal.ofBits, Ideal.ieee, th, -EReal.coe_mul, -EReal.coe_pow] <;> norm_num
theorem grid7 : Grid 7 0x44800000#32 0x3C000000#32 0x3A80#16 := by
  constructor <;> simp [Ideal.ofBits, Ideal.ieee, th, -EReal.coe_mul, -EReal.coe_pow] <;> norm_num
theorem grid8 : Grid 8 0x45000000#32 0x3B800000#32 0x3A00#16 := by
  constructor <;> simp [Ideal.ofBits, Ideal.ieee, th, -EReal.coe_mul, -EReal.coe_pow] <;> norm_num
theorem grid9 : Grid 9 0x45800000#32 0x3B000000#32 0x3980#16 := by
  constructor <;> simp [Ideal.ofBits, Ideal.ieee, th, -EReal.coe_mul, -EReal.coe_pow] <;> norm_num
theorem grid10 : Grid 10 0x46000000#32 0x3A800000#32 0x3900#16 := by
  constructor <;> simp [Ideal.ofBits, Ideal.ieee, th, -EReal.coe_mul, -EReal.coe_pow] <;> norm_num
theorem grid11 : Grid 11 0x46800000#32 0x3A000000#32 0x3880#16 := by
  constructor <;> simp [Ideal.ofBits, Ideal.ieee, th, -EReal.coe_mul, -EReal.coe_pow] <;> norm_num
theorem grid12 : Grid 12 0x47000000#32 0x39800000#32 0x3800#16 := by
  constructor <;> simp [Ideal.ofBits, Ideal.ieee, th, -EReal.coe_mul, -EReal.coe_pow] <;> norm_num
theorem grid13 : Grid 13 0x47800000#32 0x39000000#32 0x3780#16 := by
  constructor <;> simp [Ideal.ofBits, Ideal.ieee, th, -EReal.coe_mul, -EReal.coe_pow] <;> norm_num
theorem grid14 : Grid 14 0x48000000#32 0x38800000#32 0x3700#16 := by
  constructor <;> simp [Ideal.ofBits, Ideal.ieee, th, -EReal.coe_mul, -EReal.coe_pow] <;> norm_num
theorem grid15 : Grid 15 0x48800000#32 0x38000000#32 0x3680#16 := by
  constructor <;> simp [Ideal.ofBits, Ideal.ieee, th, -EReal.coe_mul, -EReal.coe_pow] <;> norm_num
theorem grid16 : Grid 16 0x49000000#32 0x37800000#32 0x3600#16 := by
  constructor <;> simp [Ideal.ofBits, Ideal.ieee, th, -EReal.coe_mul, -EReal.coe_pow] <;> norm_num

/-! ## One candidate's loss of a row -/

theorem cand_apply {m : ℕ} {A C : BitVec 32} {D : BitVec 16} (hg : Grid m A C D) (p : FVec Ideal S96x512x512 .f32) (v8 : FVec Ideal S96x512x64 .bf16)
    (o g2 : FVec Ideal S96x512x64 .f32) (n : Fin 96) (i : Fin 512) (s : Fin 512 → EReal) (v : Fin 512 → Fin 64 → EReal) (g : Fin 64 → EReal)
    (hp : ∀ j, p (ix3 n i j) = ((pr s j : ℝ) : EReal)) (hv : ∀ j d, v8 (ix3 n j d) = v j d)
    (ho : ∀ d, o (ix3 n i d) = ∑ j, ((pr s j : ℝ) : EReal) * v j d) (hg2 : ∀ d, g2 (ix3 n i d) = g d * g d) :
    rowv (errv (phat A C D p) v8 o g2) (ix2 n i) = rowLoss s v g m := by
  rw [rowv_apply]
  refine Finset.sum_congr rfl fun d _ => ?_
  have hd : (∑ j : Fin 512, phat A C D p (ix3 n i j) * v8 (ix3 n j d)) = ∑ j, (qref m (pr s j) : EReal) * v j d :=
    Finset.sum_congr rfl fun j _ => by
      rw [phat_apply, hp, hv, decode_code hg.steps hg.threshold hg.fine (pr_nonneg s j)]
  rw [hd, ho, hg2, mul_comm]
  rfl

section
variable (a0 : Vec Ideal S3x512x32x64 .fp8e4m3) (a1 : Vec Ideal S3x512x32 .f32) (a2 : Vec Ideal S3x512x32x64 .fp8e4m3) (a3 : Vec Ideal S3x512x32 .f32) (a4 a5 : Vec Ideal S3x512x32x64 .bf16)

theorem ld4 {e : EltTy} (x : S3x512x32x64.Idx → Elt Ideal e) : View.ld x r0_0 = x :=
  View.ld_unit_zero (by funext a; fin_cases a <;> rfl) _ _
theorem ld3 {e : EltTy} (x : S3x512x32.Idx → Elt Ideal e) : View.ld x r0_1 = x :=
  View.ld_unit_zero (by funext a; fin_cases a <;> rfl) _ _

/-- The scores of batch `b` and head `h`, of the argument arrays. -/
abbrev sc (b : Fin 3) (h : Fin 32) : Fin 512 → Fin 512 → EReal :=
  headScore (fun b a h d => a0 (ix4 b a h d)) (fun b a h => a1 (ix3 b a h)) (fun b a h d => a2 (ix4 b a h d)) (fun b a h => a3 (ix3 b a h)) b h

theorem v_apply (b : Fin 3) (h : Fin 32) (a : Fin 512) (d : Fin 64) : k0_pay56 a0 a1 a2 a3 a4 a5 (ix3 (hd b h) a d) = a4 (ix4 b a h d) := by
  unfold k0_pay56
  rw [ld4]
  exact tok_apply (φ := .bf16) a4 b h a d

theorem g_apply (b : Fin 3) (h : Fin 32) (a : Fin 512) (d : Fin 64) : k0_pay57 a0 a1 a2 a3 a4 a5 (ix3 (hd b h) a d) = a5 (ix4 b a h d) := by
  unfold k0_pay57
  rw [ld4]
  exact tok_apply (φ := .bf16) a5 b h a d

theorem s_apply (b : Fin 3) (h : Fin 32) (i j : Fin 512) : k0_pay58 a0 a1 a2 a3 a4 a5 (ix3 (hd b h) i j) = sc a0 a1 a2 a3 b h i j := by
  unfold k0_pay58
  rw [ld4, ld4, ld3, ld3]
  exact pay6_apply a0 a2 a1 a3 b h i j

theorem mx_apply (b : Fin 3) (h : Fin 32) (i : Fin 512) (u : Fin 1) : k0_pay59 a0 a1 a2 a3 a4 a5 (ix3 (hd b h) i u) = rowMax (sc a0 a1 a2 a3 b h i) := by
  refine (max_apply (k0_pay58 a0 a1 a2 a3 a4 a5) (hd b h) i u).trans ?_
  simp only [s_apply]

theorem total_apply (b : Fin 3) (h : Fin 32) (i : Fin 512) (u : Fin 1) : k0_pay60 a0 a1 a2 a3 a4 a5 (ix3 (hd b h) i u) = total (sc a0 a1 a2 a3 b h i) := by
  refine (sum_apply (k0_pay58 a0 a1 a2 a3 a4 a5) (k0_pay59 a0 a1 a2 a3 a4 a5) (hd b h) i u).trans ?_
  simp only [s_apply, mx_apply]
  rfl

theorem p_apply (b : Fin 3) (h : Fin 32) (i j : Fin 512) : k0_pay61 a0 a1 a2 a3 a4 a5 (ix3 (hd b h) i j) = ((pr (sc a0 a1 a2 a3 b h i) j : ℝ) : EReal) := by
  rw [← pr_coe]
  refine (pay10_apply (k0_pay58 a0 a1 a2 a3 a4 a5) (k0_pay59 a0 a1 a2 a3 a4 a5) (k0_pay60 a0 a1 a2 a3 a4 a5) (hd b h) i j).trans ?_
  rw [s_apply, mx_apply, total_apply]
  rfl

theorem o_apply (b : Fin 3) (h : Fin 32) (i : Fin 512) (d : Fin 64) :
    k0_pay62 a0 a1 a2 a3 a4 a5 (ix3 (hd b h) i d) = ∑ j, ((pr (sc a0 a1 a2 a3 b h i) j : ℝ) : EReal) * a4 (ix4 b j h d) := by
  refine (pay11_apply (k0_pay56 a0 a1 a2 a3 a4 a5) (k0_pay58 a0 a1 a2 a3 a4 a5) (k0_pay59 a0 a1 a2 a3 a4 a5) (k0_pay60 a0 a1 a2 a3 a4 a5) (hd b h) i d).trans ?_
  exact Finset.sum_congr rfl fun j _ => congrArg₂ (· * ·) (p_apply a0 a1 a2 a3 a4 a5 b h i j) (v_apply a0 a1 a2 a3 a4 a5 b h j d)

theorem g2_apply (b : Fin 3) (h : Fin 32) (i : Fin 512) (d : Fin 64) :
    k0_pay63 a0 a1 a2 a3 a4 a5 (ix3 (hd b h) i d) = a5 (ix4 b i h d) * a5 (ix4 b i h d) := by
  refine (pay12_apply (k0_pay57 a0 a1 a2 a3 a4 a5) (hd b h) i d).trans ?_
  rw [g_apply]

/-- The loss of a row under candidate `n`, of the argument arrays. -/
abbrev hr (b : Fin 3) (h : Fin 32) (a : Fin 512) (n : ℕ) : EReal :=
  headRow (fun b a h d => a0 (ix4 b a h d)) (fun b a h => a1 (ix3 b a h)) (fun b a h d => a2 (ix4 b a h d)) (fun b a h => a3 (ix3 b a h))
    (fun b a h d => a4 (ix4 b a h d)) (fun b a h d => a5 (ix4 b a h d)) b h a n

theorem row_cand {m : ℕ} {A C : BitVec 32} {D : BitVec 16} (hg : Grid m A C D) (b : Fin 3) (h : Fin 32) (a : Fin 512) :
    rowv (errv (phat A C D (k0_pay61 a0 a1 a2 a3 a4 a5)) (k0_pay56 a0 a1 a2 a3 a4 a5) (k0_pay62 a0 a1 a2 a3 a4 a5) (k0_pay63 a0 a1 a2 a3 a4 a5)) (ix2 (hd b h) a) = hr a0 a1 a2 a3 a4 a5 b h a m :=
  cand_apply hg _ _ _ _ (hd b h) a (sc a0 a1 a2 a3 b h a) (fun j d => a4 (ix4 b j h d)) (fun d => a5 (ix4 b a h d))
    (p_apply a0 a1 a2 a3 a4 a5 b h a) (fun j d => v_apply a0 a1 a2 a3 a4 a5 b h j d) (o_apply a0 a1 a2 a3 a4 a5 b h a) (g2_apply a0 a1 a2 a3 a4 a5 b h a)

theorem row1 (b : Fin 3) (h : Fin 32) (a : Fin 512) : k0_pay64 a0 a1 a2 a3 a4 a5 (ix2 (hd b h) a) = hr a0 a1 a2 a3 a4 a5 b h a 1 :=
  row_cand a0 a1 a2 a3 a4 a5 grid1 b h a
theorem row2 (b : Fin 3) (h : Fin 32) (a : Fin 512) : k0_pay65 a0 a1 a2 a3 a4 a5 (ix2 (hd b h) a) = hr a0 a1 a2 a3 a4 a5 b h a 2 :=
  row_cand a0 a1 a2 a3 a4 a5 grid2 b h a
theorem row3 (b : Fin 3) (h : Fin 32) (a : Fin 512) : k0_pay66 a0 a1 a2 a3 a4 a5 (ix2 (hd b h) a) = hr a0 a1 a2 a3 a4 a5 b h a 3 :=
  row_cand a0 a1 a2 a3 a4 a5 grid3 b h a
theorem row4 (b : Fin 3) (h : Fin 32) (a : Fin 512) : k0_pay67 a0 a1 a2 a3 a4 a5 (ix2 (hd b h) a) = hr a0 a1 a2 a3 a4 a5 b h a 4 :=
  row_cand a0 a1 a2 a3 a4 a5 grid4 b h a
theorem row5 (b : Fin 3) (h : Fin 32) (a : Fin 512) : k0_pay68 a0 a1 a2 a3 a4 a5 (ix2 (hd b h) a) = hr a0 a1 a2 a3 a4 a5 b h a 5 :=
  row_cand a0 a1 a2 a3 a4 a5 grid5 b h a
theorem row6 (b : Fin 3) (h : Fin 32) (a : Fin 512) : k0_pay69 a0 a1 a2 a3 a4 a5 (ix2 (hd b h) a) = hr a0 a1 a2 a3 a4 a5 b h a 6 :=
  row_cand a0 a1 a2 a3 a4 a5 grid6 b h a
theorem row7 (b : Fin 3) (h : Fin 32) (a : Fin 512) : k0_pay70 a0 a1 a2 a3 a4 a5 (ix2 (hd b h) a) = hr a0 a1 a2 a3 a4 a5 b h a 7 :=
  row_cand a0 a1 a2 a3 a4 a5 grid7 b h a
theorem row8 (b : Fin 3) (h : Fin 32) (a : Fin 512) : k0_pay71 a0 a1 a2 a3 a4 a5 (ix2 (hd b h) a) = hr a0 a1 a2 a3 a4 a5 b h a 8 :=
  row_cand a0 a1 a2 a3 a4 a5 grid8 b h a
theorem row9 (b : Fin 3) (h : Fin 32) (a : Fin 512) : k0_pay72 a0 a1 a2 a3 a4 a5 (ix2 (hd b h) a) = hr a0 a1 a2 a3 a4 a5 b h a 9 :=
  row_cand a0 a1 a2 a3 a4 a5 grid9 b h a
theorem row10 (b : Fin 3) (h : Fin 32) (a : Fin 512) : k0_pay73 a0 a1 a2 a3 a4 a5 (ix2 (hd b h) a) = hr a0 a1 a2 a3 a4 a5 b h a 10 :=
  row_cand a0 a1 a2 a3 a4 a5 grid10 b h a
theorem row11 (b : Fin 3) (h : Fin 32) (a : Fin 512) : k0_pay74 a0 a1 a2 a3 a4 a5 (ix2 (hd b h) a) = hr a0 a1 a2 a3 a4 a5 b h a 11 :=
  row_cand a0 a1 a2 a3 a4 a5 grid11 b h a
theorem row12 (b : Fin 3) (h : Fin 32) (a : Fin 512) : k0_pay75 a0 a1 a2 a3 a4 a5 (ix2 (hd b h) a) = hr a0 a1 a2 a3 a4 a5 b h a 12 :=
  row_cand a0 a1 a2 a3 a4 a5 grid12 b h a
theorem row13 (b : Fin 3) (h : Fin 32) (a : Fin 512) : k0_pay76 a0 a1 a2 a3 a4 a5 (ix2 (hd b h) a) = hr a0 a1 a2 a3 a4 a5 b h a 13 :=
  row_cand a0 a1 a2 a3 a4 a5 grid13 b h a
theorem row14 (b : Fin 3) (h : Fin 32) (a : Fin 512) : k0_pay77 a0 a1 a2 a3 a4 a5 (ix2 (hd b h) a) = hr a0 a1 a2 a3 a4 a5 b h a 14 :=
  row_cand a0 a1 a2 a3 a4 a5 grid14 b h a
theorem row15 (b : Fin 3) (h : Fin 32) (a : Fin 512) : k0_pay78 a0 a1 a2 a3 a4 a5 (ix2 (hd b h) a) = hr a0 a1 a2 a3 a4 a5 b h a 15 :=
  row_cand a0 a1 a2 a3 a4 a5 grid15 b h a
theorem row16 (b : Fin 3) (h : Fin 32) (a : Fin 512) : rowv (k0_pay79 a0 a1 a2 a3 a4 a5) (ix2 (hd b h) a) = hr a0 a1 a2 a3 a4 a5 b h a 16 :=
  row_cand a0 a1 a2 a3 a4 a5 grid16 b h a

/-! ## The results -/

theorem G7_apply (b : Fin 3) (h : Fin 32) (a : Fin 512) (k : Fin 16) : Ref.G7 a0 a1 a2 a3 a4 a5 (ix4 b h a k) = hr a0 a1 a2 a3 a4 a5 b h a (k.val + 1) := by
  refine (pay1_apply ![k0_pay64 a0 a1 a2 a3 a4 a5, k0_pay65 a0 a1 a2 a3 a4 a5, k0_pay66 a0 a1 a2 a3 a4 a5, k0_pay67 a0 a1 a2 a3 a4 a5, k0_pay68 a0 a1 a2 a3 a4 a5, k0_pay69 a0 a1 a2 a3 a4 a5, k0_pay70 a0 a1 a2 a3 a4 a5, k0_pay71 a0 a1 a2 a3 a4 a5, k0_pay72 a0 a1 a2 a3 a4 a5, k0_pay73 a0 a1 a2 a3 a4 a5, k0_pay74 a0 a1 a2 a3 a4 a5, k0_pay75 a0 a1 a2 a3 a4 a5, k0_pay76 a0 a1 a2 a3 a4 a5, k0_pay77 a0 a1 a2 a3 a4 a5, k0_pay78 a0 a1 a2 a3 a4 a5] (k0_pay79 a0 a1 a2 a3 a4 a5) b h a k).trans ?_
  fin_cases k
  · exact row1 a0 a1 a2 a3 a4 a5 b h a
  · exact row2 a0 a1 a2 a3 a4 a5 b h a
  · exact row3 a0 a1 a2 a3 a4 a5 b h a
  · exact row4 a0 a1 a2 a3 a4 a5 b h a
  · exact row5 a0 a1 a2 a3 a4 a5 b h a
  · exact row6 a0 a1 a2 a3 a4 a5 b h a
  · exact row7 a0 a1 a2 a3 a4 a5 b h a
  · exact row8 a0 a1 a2 a3 a4 a5 b h a
  · exact row9 a0 a1 a2 a3 a4 a5 b h a
  · exact row10 a0 a1 a2 a3 a4 a5 b h a
  · exact row11 a0 a1 a2 a3 a4 a5 b h a
  · exact row12 a0 a1 a2 a3 a4 a5 b h a
  · exact row13 a0 a1 a2 a3 a4 a5 b h a
  · exact row14 a0 a1 a2 a3 a4 a5 b h a
  · exact row15 a0 a1 a2 a3 a4 a5 b h a
  · exact row16 a0 a1 a2 a3 a4 a5 b h a

theorem G6_apply (h : Fin 32) (k : Fin 16) :
    Ref.G6 a0 a1 a2 a3 a4 a5 (ix2 h k) = headLoss (fun b a h d => a0 (ix4 b a h d)) (fun b a h => a1 (ix3 b a h)) (fun b a h d => a2 (ix4 b a h d)) (fun b a h => a3 (ix3 b a h))
      (fun b a h d => a4 (ix4 b a h d)) (fun b a h d => a5 (ix4 b a h d)) h (k.val + 1) := by
  refine (pay2_apply ![k0_pay64 a0 a1 a2 a3 a4 a5, k0_pay65 a0 a1 a2 a3 a4 a5, k0_pay66 a0 a1 a2 a3 a4 a5, k0_pay67 a0 a1 a2 a3 a4 a5, k0_pay68 a0 a1 a2 a3 a4 a5, k0_pay69 a0 a1 a2 a3 a4 a5, k0_pay70 a0 a1 a2 a3 a4 a5, k0_pay71 a0 a1 a2 a3 a4 a5, k0_pay72 a0 a1 a2 a3 a4 a5, k0_pay73 a0 a1 a2 a3 a4 a5, k0_pay74 a0 a1 a2 a3 a4 a5, k0_pay75 a0 a1 a2 a3 a4 a5, k0_pay76 a0 a1 a2 a3 a4 a5, k0_pay77 a0 a1 a2 a3 a4 a5, k0_pay78 a0 a1 a2 a3 a4 a5] (k0_pay79 a0 a1 a2 a3 a4 a5) h k).trans ?_
  exact Finset.sum_congr rfl fun b _ => Finset.sum_congr rfl fun a _ => G7_apply a0 a1 a2 a3 a4 a5 b h a k

theorem G8_apply (b : Fin 3) (h : Fin 32) (a : Fin 512) : Ref.G8 a0 a1 a2 a3 a4 a5 (ix3 b h a) = lse (sc a0 a1 a2 a3 b h a) - logSeq := by
  refine (pay3_apply _ b h a).trans ?_
  rw [pay9_apply, mx_apply, total_apply]
  rfl

end

end Cert.ReferenceIdeal.Hand

end
-- ==== Proof.Equal.lean ====
/- The two programs leave the same results: each result of the kernel, and of the reference, is one function of the arguments. -/
module

public import proofs.«01_k».proof.Defs
public import proofs.«01_k».proof.Proof.KFinal
public import proofs.«01_k».proof.Proof.RFinal

@[expose] public section

noncomputable section

namespace Cert.Proof

open Idealize.ShloMosaic Idealize.SL.Sem Cert.Math
open Cert.KernelIdeal.Hand (qA qsA kA ksA vA gA)

variable (m : (ℓ : Loc Cert.KernelIdeal.nD Cert.KernelIdeal.τ Cert.KernelIdeal.sig) → Buf (Elt Ideal) ℓ)

/-- The head losses, by head and candidate. -/
def losses (c : Dev Cert.KernelIdeal.nD) : Cert.KernelIdeal.S32x16.Idx → EReal :=
  fun i => headLoss (qA m c) (qsA m c) (kA m c) (ksA m c) (vA m c) (gA m c) (i 0) ((i 1 : Fin 16).val + 1)

/-- The losses of the rows, by batch, head, row and candidate. -/
def rows (c : Dev Cert.KernelIdeal.nD) : Cert.KernelIdeal.S3x32x512x16.Idx → EReal :=
  fun i => headRow (qA m c) (qsA m c) (kA m c) (ksA m c) (vA m c) (gA m c) (i 0) (i 1) (i 2) ((i 3 : Fin 16).val + 1)

/-- The log-sum-exps less the constant, by batch, head and row. -/
def lses (c : Dev Cert.KernelIdeal.nD) : Cert.KernelIdeal.S3x32x512.Idx → EReal :=
  fun i => lse (headScore (qA m c) (qsA m c) (kA m c) (ksA m c) (i 0) (i 1) (i 2)) - logSeq

theorem algebraic : Cert.algebraic_KernelIdeal_ReferenceIdeal (hKernelIdeal := Cert.KernelIdeal.Gen.facts)
    (hReferenceIdeal := Cert.ReferenceIdeal.Gen.facts) := by
  intro m g m' g' _ hagree
  refine ⟨losses m, rows m, lses m, ?_, ?_⟩
  · refine (θ_run Cert.KernelIdeal.defs _ _).mono ?_ (Cert.KernelIdeal.Hand.run_main_quiescent m g)
    intro r hr c
    refine ⟨?_, ?_, ?_, Cert.KernelIdeal.Hand.unchanged_of m r hr.1 c⟩
    · funext i
      rw [eq_ix2 i]
      exact Cert.KernelIdeal.Hand.result6 hr.1 c (i 0) (i 1)
    · funext i
      rw [eq_ix4 i]
      exact Cert.KernelIdeal.Hand.result7 hr.1 c (i 0) (i 1) (i 2) (i 3)
    · funext i
      rw [eq_ix3 i]
      exact Cert.KernelIdeal.Hand.result8 hr.1 c (i 0) (i 1) (i 2)
  · refine (θ_run Cert.ReferenceIdeal.defs _ _).mono ?_ (Cert.ReferenceIdeal.Ref.run m' g')
    intro r hr c
    obtain ⟨h0, h1, h2, ha⟩ := hr c
    obtain ⟨e0, e1, e2, e3, e4, e5⟩ := hagree c
    refine ⟨?_, ?_, ?_, ha⟩
    · refine h0.trans ?_
      rw [e0, e1, e2, e3, e4, e5]
      funext i
      rw [eq_ix2 i]
      exact Cert.ReferenceIdeal.Hand.G6_apply _ _ _ _ _ _ (i 0) (i 1)
    · refine h1.trans ?_
      rw [e0, e1, e2, e3, e4, e5]
      funext i
      rw [eq_ix4 i]
      exact Cert.ReferenceIdeal.Hand.G7_apply _ _ _ _ _ _ (i 0) (i 1) (i 2) (i 3)
    · refine h2.trans ?_
      rw [e0, e1, e2, e3, e4, e5]
      funext i
      rw [eq_ix3 i]
      exact Cert.ReferenceIdeal.Hand.G8_apply _ _ _ _ _ _ (i 0) (i 1) (i 2)

end Cert.Proof

end
-- ==== Proof.lean ====
/- The certificate: the frames of the three programs, the statement of every named constant, and the equality of the kernel's
   and the reference's results on the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.WordFrame
public import proofs.«01_k».proof.Proof.Body
public import proofs.«01_k».proof.Proof.Equal
public import Idealize.ShloMosaic.Adequacy
public import Idealize.ShloMosaic.Init

@[expose] public section

noncomputable section

namespace Cert.Proof

open Idealize.ShloMosaic Idealize.SL.Sem

/-- Each named constant of the kernel denotes at `Ideal` the extended real that the table states for it. -/
theorem preserves : Cert.preserves_Kernel_KernelIdeal :=
  ⟨IdealRules.named_const.statement Cert.KernelIdeal.κ "log2e_over_8" .f32 0x3E38AA3B#32 _ rfl,
    IdealRules.named_const.statement Cert.KernelIdeal.κ "ln2" .f32 0x3F317218#32 _ rfl,
    IdealRules.named_const.statement Cert.KernelIdeal.κ "below_one" .f32 0x3F7FFFFF#32 _ rfl⟩

theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, preserves, algebraic⟩

end Cert.Proof

end
